-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_in_range [hPre_inputs_in_range : Cert.Pre_inputs_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_in_range [hPre_inputs_in_range : Cert.Pre_inputs_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_inputs_in_range [hKernelIdeal : Cert.KernelIdeal.Facts] [hPre_inputs_in_range : Cert.Pre_inputs_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_inputs_in_range [hReferenceIdeal : Cert.ReferenceIdeal.Facts] [hPre_inputs_in_range : Cert.Pre_inputs_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_inputs_in_range [hKernelIdeal : Cert.KernelIdeal.Facts] [hReferenceIdeal : Cert.ReferenceIdeal.Facts] [hPre_inputs_in_range : Cert.Pre_inputs_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v223) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_inputs_in_range : Cert.Pre_inputs_in_range.Facts),
    quiescent_Kernel (hKernel := hKernel)
    ∧ quiescent_KernelIdeal (hKernelIdeal := hKernelIdeal)
    ∧ quiescent_KernelIdeal_pre_inputs_in_range (hKernelIdeal := hKernelIdeal) (hPre_inputs_in_range := hPre_inputs_in_range)
    ∧ quiescent_ReferenceIdeal (hReferenceIdeal := hReferenceIdeal)
    ∧ quiescent_ReferenceIdeal_pre_inputs_in_range (hReferenceIdeal := hReferenceIdeal) (hPre_inputs_in_range := hPre_inputs_in_range)
    ∧ preserves_Kernel_KernelIdeal
    ∧ algebraic_KernelIdeal_ReferenceIdeal_pre_inputs_in_range (hKernelIdeal := hKernelIdeal) (hReferenceIdeal := hReferenceIdeal) (hPre_inputs_in_range := hPre_inputs_in_range)
-- ==== Pre_inputs_in_range.lean ====
abbrev S32x32x64x64x3 : Shape := ⟨5, ![32, 32, 64, 64, 3]⟩
abbrev S3x3 : Shape := ⟨2, ![3, 3]⟩
abbrev S3 : Shape := ⟨1, ![3]⟩
abbrev S_ : Shape := ⟨0, ![]⟩

class Facts : Prop where
  bcast_S_S32x32x64x64x3 : S_.BroadcastsInDim S32x32x64x64x3 (![] : Fin 0 → Fin S32x32x64x64x3.rank)
  reducesTo_S32x32x64x64x3_S_d0_1_2_3_4 : S32x32x64x64x3.ReducesTo [0, 1, 2, 3, 4] S_
  h_S_ : 0 < S_.numel
  bcast_S_S3x3 : S_.BroadcastsInDim S3x3 (![] : Fin 0 → Fin S3x3.rank)
  reducesTo_S3x3_S_d0_1 : S3x3.ReducesTo [0, 1] S_
  bcast_S_S3 : S_.BroadcastsInDim S3 (![] : Fin 0 → Fin S3.rank)
  reducesTo_S3_S_d0 : S3.ReducesTo [0] S_

variable [Facts]

def fn {F : FTy → Type} [FloatOps F] (main_arg0 : FVec F S32x32x64x64x3 .f32) (main_arg1 : FVec F S3x3 .f32) (main_arg2 : FVec F S3 .f32) : IVec S_ 1 :=
  let main_v0 : FVec F S32x32x64x64x3 .f32 := Host.absf main_arg0
  let main_cst : FVec F S_ .f32 := constant S_ .f32 0x47800000#32
  let main_v1 : FVec F S32x32x64x64x3 .f32 := broadcastInDim S32x32x64x64x3 ![] bcast_S_S32x32x64x64x3 main_cst
  let main_v2 : IVec S32x32x64x64x3 1 := cmpf .ole main_v0 main_v1
  let main_c : IVec S_ 1 := constantI S_ 1 1#1
  let main_v3 : IVec S_ 1 := (fun x v => Host.reduce IntOp.andi x v reducesTo_S32x32x64x64x3_S_d0_1_2_3_4 h_S_) main_v2 main_c
  let main_v4 : FVec F S3x3 .f32 := Host.absf main_arg1
  let main_cst_0 : FVec F S_ .f32 := constant S_ .f32 0x43800000#32
  let main_v5 : FVec F S3x3 .f32 := broadcastInDim S3x3 ![] bcast_S_S3x3 main_cst_0
  let main_v6 : IVec S3x3 1 := cmpf .ole main_v4 main_v5
  let main_c_1 : IVec S_ 1 := constantI S_ 1 1#1
  let main_v7 : IVec S_ 1 := (fun x v => Host.reduce IntOp.andi x v reducesTo_S3x3_S_d0_1 h_S_) main_v6 main_c_1
  let main_v8 : IVec S_ 1 := andi main_v3 main_v7
  let main_v9 : FVec F S3 .f32 := Host.absf main_arg2
  let main_cst_2 : FVec F S_ .f32 := constant S_ .f32 0x47800000#32
  let main_v10 : FVec F S3 .f32 := broadcastInDim S3 ![] bcast_S_S3 main_cst_2
  let main_v11 : IVec S3 1 := cmpf .ole main_v9 main_v10
  let main_c_3 : IVec S_ 1 := constantI S_ 1 1#1
  let main_v12 : IVec S_ 1 := (fun x v => Host.reduce IntOp.andi x v reducesTo_S3_S_d0 h_S_) main_v11 main_c_3
  let main_v13 : IVec S_ 1 := andi main_v8 main_v12
  main_v13
-- ==== Kernel.lean ====
abbrev S32x32x64x64x3 : Shape := ⟨5, ![32, 32, 64, 64, 3]⟩
abbrev S3x3 : Shape := ⟨2, ![3, 3]⟩
abbrev S3 : Shape := ⟨1, ![3]⟩
abbrev S32x32x3x64x64 : Shape := ⟨5, ![32, 32, 3, 64, 64]⟩
abbrev S1 : Shape := ⟨1, ![1]⟩
abbrev S_ : Shape := ⟨0, ![]⟩
abbrev S63 : Shape := ⟨1, ![63]⟩
abbrev S64 : Shape := ⟨1, ![64]⟩
abbrev S31 : Shape := ⟨1, ![31]⟩
abbrev S32 : Shape := ⟨1, ![32]⟩
abbrev S64x1 : Shape := ⟨2, ![64, 1]⟩
abbrev S64x128 : Shape := ⟨2, ![64, 128]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S1x64x128 : Shape := ⟨3, ![1, 64, 128]⟩
abbrev S4x64x128 : Shape := ⟨3, ![4, 64, 128]⟩
abbrev S1x32 : Shape := ⟨2, ![1, 32]⟩
abbrev S2x32 : Shape := ⟨2, ![2, 32]⟩
abbrev S1x32x3x64x64 : Shape := ⟨5, ![1, 32, 3, 64, 64]⟩
abbrev S1x1x3x64x64 : Shape := ⟨5, ![1, 1, 3, 64, 64]⟩
abbrev S3x64x64 : Shape := ⟨3, ![3, 64, 64]⟩
abbrev S3x64x128 : Shape := ⟨3, ![3, 64, 128]⟩
abbrev S1x1 : Shape := ⟨2, ![1, 1]⟩
abbrev S64x64 : Shape := ⟨2, ![64, 64]⟩
abbrev S1x1x1x64x64 : Shape := ⟨5, ![1, 1, 1, 64, 64]⟩

abbrev nBuf : Space → Nat
  | .hbm => 122
  | .vmem => 5
  | .smem => 2
  | _ => 0

abbrev bufTy : (tb : Table) → Fin (tcTables nBuf tb) → BufTy
  | .hbm, ⟨0, _⟩ => ⟨S32x32x64x64x3, .f32⟩
  | .hbm, ⟨1, _⟩ => ⟨S3x3, .f32⟩
  | .hbm, ⟨2, _⟩ => ⟨S3, .f32⟩
  | .hbm, ⟨3, _⟩ => ⟨S32x32x3x64x64, .f32⟩
  | .hbm, ⟨4, _⟩ => ⟨S1, .f32⟩
  | .hbm, ⟨5, _⟩ => ⟨S_, .f32⟩
  | .hbm, ⟨6, _⟩ => ⟨S1, .f32⟩
  | .hbm, ⟨7, _⟩ => ⟨S_, .f32⟩
  | .hbm, ⟨8, _⟩ => ⟨S1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S63, .f32⟩
  | .hbm, ⟨18, _⟩ => ⟨S_, .f32⟩
  | .hbm, ⟨19, _⟩ => ⟨S63, .f32⟩
  | .hbm, ⟨20, _⟩ => ⟨S63, .f32⟩
  | .hbm, ⟨21, _⟩ => ⟨S1, .f32⟩
  | .hbm, ⟨22, _⟩ => ⟨S_, .f32⟩
  | .hbm, ⟨23, _⟩ => ⟨S63, .f32⟩
  | .hbm, ⟨24, _⟩ => ⟨S63, .f32⟩
  | .hbm, ⟨25, _⟩ => ⟨S63, .f32⟩
  | .hbm, ⟨26, _⟩ => ⟨S63, .f32⟩
  | .hbm, ⟨27, _⟩ => ⟨S1, .f32⟩
  | .hbm, ⟨28, _⟩ => ⟨S63, .f32⟩
  | .hbm, ⟨29, _⟩ => ⟨S63, .f32⟩
  | .hbm, ⟨30, _⟩ => ⟨S63, .f32⟩
  | .hbm, ⟨31, _⟩ => ⟨S1, .f32⟩
  | .hbm, ⟨32, _⟩ => ⟨S64, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S63, .f32⟩
  | .hbm, ⟨41, _⟩ => ⟨S_, .f32⟩
  | .hbm, ⟨42, _⟩ => ⟨S63, .f32⟩
  | .hbm, ⟨43, _⟩ => ⟨S63, .f32⟩
  | .hbm, ⟨44, _⟩ => ⟨S1, .f32⟩
  | .hbm, ⟨45, _⟩ => ⟨S_, .f32⟩
  | .hbm, ⟨46, _⟩ => ⟨S63, .f32⟩
  | .hbm, ⟨47, _⟩ => ⟨S63, .f32⟩
  | .hbm, ⟨48, _⟩ => ⟨S63, .f32⟩
  | .hbm, ⟨49, _⟩ => ⟨S63, .f32⟩
  | .hbm, ⟨50, _⟩ => ⟨S1, .f32⟩
  | .hbm, ⟨51, _⟩ => ⟨S63, .f32⟩
  | .hbm, ⟨52, _⟩ => ⟨S63, .f32⟩
  | .hbm, ⟨53, _⟩ => ⟨S63, .f32⟩
  | .hbm, ⟨54, _⟩ => ⟨S1, .f32⟩
  | .hbm, ⟨55, _⟩ => ⟨S64, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S31, .f32⟩
  | .hbm, ⟨64, _⟩ => ⟨S_, .f32⟩
  | .hbm, ⟨65, _⟩ => ⟨S31, .f32⟩
  | .hbm, ⟨66, _⟩ => ⟨S31, .f32⟩
  | .hbm, ⟨67, _⟩ => ⟨S1, .f32⟩
  | .hbm, ⟨68, _⟩ => ⟨S_, .f32⟩
  | .hbm, ⟨69, _⟩ => ⟨S31, .f32⟩
  | .hbm, ⟨70, _⟩ => ⟨S31, .f32⟩
  | .hbm, ⟨71, _⟩ => ⟨S31, .f32⟩
  | .hbm, ⟨72, _⟩ => ⟨S31, .f32⟩
  | .hbm, ⟨73, _⟩ => ⟨S1, .f32⟩
  | .hbm, ⟨74, _⟩ => ⟨S31, .f32⟩
  | .hbm, ⟨75, _⟩ => ⟨S31, .f32⟩
  | .hbm, ⟨76, _⟩ => ⟨S31, .f32⟩
  | .hbm, ⟨77, _⟩ => ⟨S1, .f32⟩
  | .hbm, ⟨78, _⟩ => ⟨S32, .f32⟩
  | .hbm, ⟨79, _⟩ => ⟨S64x1, .f32⟩
  | .hbm, ⟨80, _⟩ => ⟨S_, .f32⟩
  | .hbm, ⟨81, _⟩ => ⟨S64x1, .f32⟩
  | .hbm, ⟨82, _⟩ => ⟨S64x1, .f32⟩
  | .hbm, ⟨83, _⟩ => ⟨S64x128, .f32⟩
  | .hbm, ⟨84, _⟩ => ⟨S64x128, .f32⟩
  | .hbm, ⟨85, _⟩ => ⟨S64x128, .f32⟩
  | .hbm, ⟨86, _⟩ => ⟨S_, .f32⟩
  | .hbm, ⟨87, _⟩ => ⟨S64x128, .f32⟩
  | .hbm, ⟨88, _⟩ => ⟨S64x128, .f32⟩
  | .hbm, ⟨89, _⟩ => ⟨S_, .f32⟩
  | .hbm, ⟨90, _⟩ => ⟨S64, .f32⟩
  | .hbm, ⟨91, _⟩ => ⟨S64, .f32⟩
  | .hbm, ⟨92, _⟩ => ⟨S1x64, .f32⟩
  | .hbm, ⟨93, _⟩ => ⟨S2x64, .f32⟩
  | .hbm, ⟨94, _⟩ => ⟨S128, .f32⟩
  | .hbm, ⟨95, _⟩ => ⟨S1x128, .f32⟩
  | .hbm, ⟨96, _⟩ => ⟨S64x128, .f32⟩
  | .hbm, ⟨97, _⟩ => ⟨S64x128, .f32⟩
  | .hbm, ⟨98, _⟩ => ⟨S64x128, .f32⟩
  | .hbm, ⟨99, _⟩ => ⟨S_, .f32⟩
  | .hbm, ⟨100, _⟩ => ⟨S64x128, .f32⟩
  | .hbm, ⟨101, _⟩ => ⟨S64x128, .f32⟩
  | .hbm, ⟨102, _⟩ => ⟨S1x64x128, .f32⟩
  | .hbm, ⟨103, _⟩ => ⟨S1x64x128, .f32⟩
  | .hbm, ⟨104, _⟩ => ⟨S1x64x128, .f32⟩
  | .hbm, ⟨105, _⟩ => ⟨S1x64x128, .f32⟩
  | .hbm, ⟨106, _⟩ => ⟨S4x64x128, .f32⟩
  | .hbm, ⟨107, _⟩ => ⟨S_, .f32⟩
  | .hbm, ⟨108, _⟩ => ⟨S32, .f32⟩
  | .hbm, ⟨109, _⟩ => ⟨S32, .f32⟩
  | .hbm, ⟨110, _⟩ => ⟨S32, .f32⟩
  | .hbm, ⟨111, _⟩ => ⟨S32, .f32⟩
  | .hbm, ⟨112, _⟩ => ⟨S_, .f32⟩
  | .hbm, ⟨113, _⟩ => ⟨S32, .f32⟩
  | .hbm, ⟨114, _⟩ => ⟨S32, .f32⟩
  | .hbm, ⟨115, _⟩ => ⟨S1x32, .f32⟩
  | .hbm, ⟨116, _⟩ => ⟨S1x32, .f32⟩
  | .hbm, ⟨117, _⟩ => ⟨S2x32, .f32⟩
  | .hbm, ⟨118, _⟩ => ⟨S3x3, .bf16⟩
  | .hbm, ⟨119, _⟩ => ⟨S3x3, .f32⟩
  | .hbm, ⟨120, _⟩ => ⟨S32x32x3x64x64, .f32⟩
  | .hbm, ⟨121, _⟩ => ⟨S32x32x64x64x3, .f32⟩
  | .local _ .vmem, ⟨0, _⟩ => ⟨S1x32x3x64x64, .f32⟩
  | .local _ .vmem, ⟨1, _⟩ => ⟨S1x32x3x64x64, .f32⟩
  | .local _ .vmem, ⟨2, _⟩ => ⟨S4x64x128, .f32⟩
  | .local _ .vmem, ⟨3, _⟩ => ⟨S1x32x3x64x64, .f32⟩
  | .local _ .vmem, ⟨4, _⟩ => ⟨S1x32x3x64x64, .f32⟩
  | .local _ .smem, ⟨0, _⟩ => ⟨S2x32, .f32⟩
  | .local _ .smem, ⟨1, _⟩ => ⟨S3x3, .f32⟩
  | _, _ => ⟨S32x32x64x64x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_cst : Ref sig .tc := ⟨.hbm, 15, rfl⟩
abbrev main_call0_v3 : Ref sig .tc := ⟨.hbm, 16, rfl⟩
abbrev main_call0_v4 : Ref sig .tc := ⟨.hbm, 17, rfl⟩
abbrev main_call0_cst_0 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_cst_1 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_v15 : Ref sig .tc := ⟨.hbm, 30, rfl⟩
abbrev main_call0_v16 : Ref sig .tc := ⟨.hbm, 31, rfl⟩
abbrev main_v7 : Ref sig .tc := ⟨.hbm, 32, rfl⟩
abbrev main_cst_1 : Ref sig .tc := ⟨.hbm, 33, rfl⟩
abbrev main_cst_2 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_cst : Ref sig .tc := ⟨.hbm, 38, rfl⟩
abbrev main_call1_v3 : Ref sig .tc := ⟨.hbm, 39, rfl⟩
abbrev main_call1_v4 : Ref sig .tc := ⟨.hbm, 40, rfl⟩
abbrev main_call1_cst_0 : Ref sig .tc := ⟨.hbm, 41, rfl⟩
abbrev main_call1_v5 : Ref sig .tc := ⟨.hbm, 42, rfl⟩
abbrev main_call1_v6 : Ref sig .tc := ⟨.hbm, 43, rfl⟩
abbrev main_call1_v7 : Ref sig .tc := ⟨.hbm, 44, rfl⟩
abbrev main_call1_cst_1 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_v15 : Ref sig .tc := ⟨.hbm, 53, rfl⟩
abbrev main_call1_v16 : Ref sig .tc := ⟨.hbm, 54, rfl⟩
abbrev main_v8 : Ref sig .tc := ⟨.hbm, 55, rfl⟩
abbrev main_cst_3 : Ref sig .tc := ⟨.hbm, 56, rfl⟩
abbrev main_cst_4 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_call2_cst : Ref sig .tc := ⟨.hbm, 61, rfl⟩
abbrev main_call2_v3 : Ref sig .tc := ⟨.hbm, 62, rfl⟩
abbrev main_call2_v4 : Ref sig .tc := ⟨.hbm, 63, rfl⟩
abbrev main_call2_cst_0 : Ref sig .tc := ⟨.hbm, 64, rfl⟩
abbrev main_call2_v5 : Ref sig .tc := ⟨.hbm, 65, rfl⟩
abbrev main_call2_v6 : Ref sig .tc := ⟨.hbm, 66, rfl⟩
abbrev main_call2_v7 : Ref sig .tc := ⟨.hbm, 67, rfl⟩
abbrev main_call2_cst_1 : Ref sig .tc := ⟨.hbm, 68, rfl⟩
abbrev main_call2_v8 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_v12 : Ref sig .tc := ⟨.hbm, 73, rfl⟩
abbrev main_call2_v13 : Ref sig .tc := ⟨.hbm, 74, rfl⟩
abbrev main_call2_v14 : Ref sig .tc := ⟨.hbm, 75, rfl⟩
abbrev main_call2_v15 : Ref sig .tc := ⟨.hbm, 76, rfl⟩
abbrev main_call2_v16 : Ref sig .tc := ⟨.hbm, 77, rfl⟩
abbrev main_v9 : Ref sig .tc := ⟨.hbm, 78, rfl⟩
abbrev main_v10 : Ref sig .tc := ⟨.hbm, 79, rfl⟩
abbrev main_cst_5 : Ref sig .tc := ⟨.hbm, 80, rfl⟩
abbrev main_v11 : Ref sig .tc := ⟨.hbm, 81, rfl⟩
abbrev main_v12 : Ref sig .tc := ⟨.hbm, 82, rfl⟩
abbrev main_v13 : Ref sig .tc := ⟨.hbm, 83, rfl⟩
abbrev main_v14 : Ref sig .tc := ⟨.hbm, 84, rfl⟩
abbrev main_v15 : Ref sig .tc := ⟨.hbm, 85, rfl⟩
abbrev main_cst_6 : Ref sig .tc := ⟨.hbm, 86, rfl⟩
abbrev main_v16 : Ref sig .tc := ⟨.hbm, 87, rfl⟩
abbrev main_v17 : Ref sig .tc := ⟨.hbm, 88, rfl⟩
abbrev main_cst_7 : Ref sig .tc := ⟨.hbm, 89, rfl⟩
abbrev main_v18 : Ref sig .tc := ⟨.hbm, 90, rfl⟩
abbrev main_v19 : Ref sig .tc := ⟨.hbm, 91, rfl⟩
abbrev main_v20 : Ref sig .tc := ⟨.hbm, 92, rfl⟩
abbrev main_v21 : Ref sig .tc := ⟨.hbm, 93, rfl⟩
abbrev main_v22 : Ref sig .tc := ⟨.hbm, 94, rfl⟩
abbrev main_v23 : Ref sig .tc := ⟨.hbm, 95, rfl⟩
abbrev main_v24 : Ref sig .tc := ⟨.hbm, 96, rfl⟩
abbrev main_v25 : Ref sig .tc := ⟨.hbm, 97, rfl⟩
abbrev main_v26 : Ref sig .tc := ⟨.hbm, 98, rfl⟩
abbrev main_cst_8 : Ref sig .tc := ⟨.hbm, 99, rfl⟩
abbrev main_v27 : Ref sig .tc := ⟨.hbm, 100, rfl⟩
abbrev main_v28 : Ref sig .tc := ⟨.hbm, 101, rfl⟩
abbrev main_v29 : Ref sig .tc := ⟨.hbm, 102, rfl⟩
abbrev main_v30 : Ref sig .tc := ⟨.hbm, 103, rfl⟩
abbrev main_v31 : Ref sig .tc := ⟨.hbm, 104, rfl⟩
abbrev main_v32 : Ref sig .tc := ⟨.hbm, 105, rfl⟩
abbrev main_v33 : Ref sig .tc := ⟨.hbm, 106, rfl⟩
abbrev main_cst_9 : Ref sig .tc := ⟨.hbm, 107, rfl⟩
abbrev main_v34 : Ref sig .tc := ⟨.hbm, 108, rfl⟩
abbrev main_v35 : Ref sig .tc := ⟨.hbm, 109, rfl⟩
abbrev main_v36 : Ref sig .tc := ⟨.hbm, 110, rfl⟩
abbrev main_v37 : Ref sig .tc := ⟨.hbm, 111, rfl⟩
abbrev main_cst_10 : Ref sig .tc := ⟨.hbm, 112, rfl⟩
abbrev main_v38 : Ref sig .tc := ⟨.hbm, 113, rfl⟩
abbrev main_v39 : Ref sig .tc := ⟨.hbm, 114, rfl⟩
abbrev main_v40 : Ref sig .tc := ⟨.hbm, 115, rfl⟩
abbrev main_v41 : Ref sig .tc := ⟨.hbm, 116, rfl⟩
abbrev main_v42 : Ref sig .tc := ⟨.hbm, 117, rfl⟩
abbrev main_v43 : Ref sig .tc := ⟨.hbm, 118, rfl⟩
abbrev main_v44 : Ref sig .tc := ⟨.hbm, 119, rfl⟩
abbrev main_v45 : Ref sig .tc := ⟨.hbm, 120, rfl⟩
abbrev main_v46 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![32, 1], ![false, false]⟩

def k0_off1 (i : grid0.Coords) (c0_i32 : BitVec 32) : Fin 2 → Nat :=
  let c0_36 : Index := 0#32
  let arg1 : BitVec 32 := BitVec.ofNat 32 (i 1).val
  let c32_i32 : BitVec 32 := 32#32
  let v11 : BitVec 32 := Scalar.muli arg1 c32_i32
  let v58 : BitVec 32 := Scalar.addi v11 c0_i32
  let v59 : Index := Scalar.indexCast v58
  ![0, v59.toNat]
def k0_off2 (i : grid0.Coords) (c0_i32_37 : BitVec 32) : Fin 2 → Nat :=
  let c0_38 : Index := 0#32
  let arg1 : BitVec 32 := BitVec.ofNat 32 (i 1).val
  let c32_i32 : BitVec 32 := 32#32
  let v11 : BitVec 32 := Scalar.muli arg1 c32_i32
  let v61 : BitVec 32 := Scalar.addi v11 c0_i32_37
  let c1_i32 : BitVec 32 := 1#32
  let v62 : BitVec 32 := Scalar.addi v61 c1_i32
  let v63 : Index := Scalar.indexCast v62
  ![0, v63.toNat]
def k0_off3 (i : grid0.Coords) (c0_i32_39 : BitVec 32) : Fin 2 → Nat :=
  let c1_40 : Index := 1#32
  let arg1 : BitVec 32 := BitVec.ofNat 32 (i 1).val
  let c32_i32 : BitVec 32 := 32#32
  let v11 : BitVec 32 := Scalar.muli arg1 c32_i32
  let v65 : BitVec 32 := Scalar.addi v11 c0_i32_39
  let v66 : Index := Scalar.indexCast v65
  ![1, v66.toNat]
def k0_off4 (i : grid0.Coords) (c0_i32_41 : BitVec 32) : Fin 2 → Nat :=
  let c1_43 : Index := 1#32
  let arg1 : BitVec 32 := BitVec.ofNat 32 (i 1).val
  let c32_i32 : BitVec 32 := 32#32
  let v11 : BitVec 32 := Scalar.muli arg1 c32_i32
  let v68 : BitVec 32 := Scalar.addi v11 c0_i32_41
  let c1_i32_42 : BitVec 32 := 1#32
  let v69 : BitVec 32 := Scalar.addi v68 c1_i32_42
  let v70 : Index := Scalar.indexCast v69
  ![1, v70.toNat]
def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x32x3x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S2x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .smem S3x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x32x3x64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S32x32x64x64x3 : Shape := ⟨5, ![32, 32, 64, 64, 3]⟩
abbrev S3x3 : Shape := ⟨2, ![3, 3]⟩
abbrev S3 : Shape := ⟨1, ![3]⟩
abbrev S1x1x1x1x3 : Shape := ⟨5, ![1, 1, 1, 1, 3]⟩
abbrev S_ : Shape := ⟨0, ![]⟩
abbrev S63 : Shape := ⟨1, ![63]⟩
abbrev S1 : Shape := ⟨1, ![1]⟩
abbrev S64 : Shape := ⟨1, ![64]⟩
abbrev S31 : Shape := ⟨1, ![31]⟩
abbrev S32 : Shape := ⟨1, ![32]⟩
abbrev S32x64x64 : Shape := ⟨3, ![32, 64, 64]⟩
abbrev S1x32x64x64 : Shape := ⟨4, ![1, 32, 64, 64]⟩
abbrev S3x32x64x64 : Shape := ⟨4, ![3, 32, 64, 64]⟩
abbrev S1x3x32x64x64 : Shape := ⟨5, ![1, 3, 32, 64, 64]⟩
abbrev S32x3x32x64x64 : Shape := ⟨5, ![32, 3, 32, 64, 64]⟩
abbrev S32x32x64x64x1 : Shape := ⟨5, ![32, 32, 64, 64, 1]⟩
abbrev S32x32x64x64 : Shape := ⟨4, ![32, 32, 64, 64]⟩
abbrev S4194304 : Shape := ⟨1, ![4194304]⟩
abbrev S32x131072 : Shape := ⟨2, ![32, 131072]⟩
abbrev S1x32x64x64x1 : Shape := ⟨5, ![1, 32, 64, 64, 1]⟩
abbrev S4194304x3 : Shape := ⟨2, ![4194304, 3]⟩
abbrev S4194304x1 : Shape := ⟨2, ![4194304, 1]⟩
abbrev S1x1 : Shape := ⟨2, ![1, 1]⟩

abbrev nBuf : Space → Nat
  | .hbm => 553
  | .vmem => 0
  | .smem => 0
  | _ => 0

abbrev hbmTy0_0 (i : Nat) : BufTy := match i % 128 with
  | 0 => ⟨S32x32x64x64x3, .f32⟩
  | 1 => ⟨S3x3, .f32⟩
  | 2 => ⟨S3, .f32⟩
  | 3 => ⟨S32x32x64x64x3, .f32⟩
  | 4 => ⟨S1x1x1x1x3, .f32⟩
  | 5 => ⟨S32x32x64x64x3, .f32⟩
  | 6 => ⟨S32x32x64x64x3, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S63, .f32⟩
  | 15 => ⟨S_, .f32⟩
  | 16 => ⟨S63, .f32⟩
  | 17 => ⟨S63, .f32⟩
  | 18 => ⟨S1, .f32⟩
  | 19 => ⟨S_, .f32⟩
  | 20 => ⟨S63, .f32⟩
  | 21 => ⟨S63, .f32⟩
  | 22 => ⟨S63, .f32⟩
  | 23 => ⟨S63, .f32⟩
  | 24 => ⟨S1, .f32⟩
  | 25 => ⟨S63, .f32⟩
  | 26 => ⟨S63, .f32⟩
  | 27 => ⟨S63, .f32⟩
  | 28 => ⟨S1, .f32⟩
  | 29 => ⟨S64, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S31, .f32⟩
  | 38 => ⟨S_, .f32⟩
  | 39 => ⟨S31, .f32⟩
  | 40 => ⟨S31, .f32⟩
  | 41 => ⟨S1, .f32⟩
  | 42 => ⟨S_, .f32⟩
  | 43 => ⟨S31, .f32⟩
  | 44 => ⟨S31, .f32⟩
  | 45 => ⟨S31, .f32⟩
  | 46 => ⟨S31, .f32⟩
  | 47 => ⟨S1, .f32⟩
  | 48 => ⟨S31, .f32⟩
  | 49 => ⟨S31, .f32⟩
  | 50 => ⟨S31, .f32⟩
  | 51 => ⟨S1, .f32⟩
  | 52 => ⟨S32, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S63, .f32⟩
  | 61 => ⟨S_, .f32⟩
  | 62 => ⟨S63, .f32⟩
  | 63 => ⟨S63, .f32⟩
  | 64 => ⟨S1, .f32⟩
  | 65 => ⟨S_, .f32⟩
  | 66 => ⟨S63, .f32⟩
  | 67 => ⟨S63, .f32⟩
  | 68 => ⟨S63, .f32⟩
  | 69 => ⟨S63, .f32⟩
  | 70 => ⟨S1, .f32⟩
  | 71 => ⟨S63, .f32⟩
  | 72 => ⟨S63, .f32⟩
  | 73 => ⟨S63, .f32⟩
  | 74 => ⟨S1, .f32⟩
  | 75 => ⟨S64, .f32⟩
  | 76 => ⟨S32x64x64, .f32⟩
  | 77 => ⟨S32x64x64, .f32⟩
  | 78 => ⟨S32x64x64, .f32⟩
  | 79 => ⟨S1x32x64x64, .f32⟩
  | 80 => ⟨S1x32x64x64, .f32⟩
  | 81 => ⟨S1x32x64x64, .f32⟩
  | 82 => ⟨S3x32x64x64, .f32⟩
  | 83 => ⟨S1x3x32x64x64, .f32⟩
  | 84 => ⟨S32x3x32x64x64, .f32⟩
  | 85 => ⟨S32x32x64x64x3, .f32⟩
  | 86 => ⟨S32x32x64x64x3, .f32⟩
  | 87 => ⟨S32x32x64x64x1, .f32⟩
  | 88 => ⟨S32x32x64x64, .f32⟩
  | 89 => ⟨S4194304, .f32⟩
  | 90 => ⟨S32x32x64x64x1, .f32⟩
  | 91 => ⟨S32x32x64x64, .f32⟩
  | 92 => ⟨S4194304, .f32⟩
  | 93 => ⟨S32x32x64x64x1, .f32⟩
  | 94 => ⟨S32x32x64x64, .f32⟩
  | 95 => ⟨S4194304, .f32⟩
  | 96 => ⟨S_, .f32⟩
  | 97 => ⟨S4194304, .f32⟩
  | 98 => ⟨S4194304, .f32⟩
  | 99 => ⟨S_, .f32⟩
  | 100 => ⟨S4194304, .f32⟩
  | 101 => ⟨S4194304, .f32⟩
  | 102 => ⟨S_, .f32⟩
  | 103 => ⟨S4194304, .f32⟩
  | 104 => ⟨S4194304, .f32⟩
  | 105 => ⟨S_, .f32⟩
  | 106 => ⟨S4194304, .f32⟩
  | 107 => ⟨S4194304, .f32⟩
  | 108 => ⟨S_, .f32⟩
  | 109 => ⟨S4194304, .f32⟩
  | 110 => ⟨S4194304, .f32⟩
  | 111 => ⟨S_, .f32⟩
  | 112 => ⟨S4194304, .f32⟩
  | 113 => ⟨S4194304, .f32⟩
  | 114 => ⟨S_, .f32⟩
  | 115 => ⟨S4194304, .f32⟩
  | 116 => ⟨S4194304, .f32⟩
  | 117 => ⟨S_, .f32⟩
  | 118 => ⟨S4194304, .f32⟩
  | 119 => ⟨S4194304, .f32⟩
  | 120 => ⟨S_, .f32⟩
  | 121 => ⟨S4194304, .f32⟩
  | 122 => ⟨S4194304, .f32⟩
  | 123 => ⟨S4194304, .f32⟩
  | 124 => ⟨S4194304, .i32⟩
  | 125 => ⟨S_, .i32⟩
  | 126 => ⟨S4194304, .i32⟩
  | 127 => ⟨S4194304, .i32⟩
  | _ => ⟨S32x32x64x64x3, .f32⟩

abbrev hbmTy0_1 (i : Nat) : BufTy := match i % 128 with
  | 0 => ⟨S4194304, .f32⟩
  | 1 => ⟨S4194304, .i32⟩
  | 2 => ⟨S_, .i32⟩
  | 3 => ⟨S4194304, .i32⟩
  | 4 => ⟨S4194304, .i32⟩
  | 5 => ⟨S4194304, .f32⟩
  | 6 => ⟨S4194304, .i32⟩
  | 7 => ⟨S_, .i32⟩
  | 8 => ⟨S4194304, .i32⟩
  | 9 => ⟨S4194304, .i32⟩
  | 10 => ⟨S_, .i32⟩
  | 11 => ⟨S_, .i32⟩
  | 12 => ⟨S_, .i32⟩
  | 13 => ⟨S4194304, .i32⟩
  | 14 => ⟨S4194304, .i32⟩
  | 15 => ⟨S_, .i32⟩
  | 16 => ⟨S4194304, .i32⟩
  | 17 => ⟨S4194304, .i32⟩
  | 18 => ⟨S_, .i32⟩
  | 19 => ⟨S_, .i32⟩
  | 20 => ⟨S_, .i32⟩
  | 21 => ⟨S4194304, .i32⟩
  | 22 => ⟨S4194304, .i32⟩
  | 23 => ⟨S_, .i32⟩
  | 24 => ⟨S4194304, .i32⟩
  | 25 => ⟨S4194304, .i32⟩
  | 26 => ⟨S_, .i32⟩
  | 27 => ⟨S_, .i32⟩
  | 28 => ⟨S_, .i32⟩
  | 29 => ⟨S4194304, .i32⟩
  | 30 => ⟨S4194304, .i32⟩
  | 31 => ⟨S_, .i32⟩
  | 32 => ⟨S4194304, .i32⟩
  | 33 => ⟨S4194304, .i32⟩
  | 34 => ⟨S_, .i32⟩
  | 35 => ⟨S_, .i32⟩
  | 36 => ⟨S_, .i32⟩
  | 37 => ⟨S4194304, .i32⟩
  | 38 => ⟨S4194304, .i32⟩
  | 39 => ⟨S_, .i32⟩
  | 40 => ⟨S4194304, .i32⟩
  | 41 => ⟨S4194304, .i32⟩
  | 42 => ⟨S_, .i32⟩
  | 43 => ⟨S_, .i32⟩
  | 44 => ⟨S_, .i32⟩
  | 45 => ⟨S4194304, .i32⟩
  | 46 => ⟨S4194304, .i32⟩
  | 47 => ⟨S_, .i32⟩
  | 48 => ⟨S4194304, .i32⟩
  | 49 => ⟨S4194304, .i32⟩
  | 50 => ⟨S_, .i32⟩
  | 51 => ⟨S_, .i32⟩
  | 52 => ⟨S_, .i32⟩
  | 53 => ⟨S4194304, .i32⟩
  | 54 => ⟨S4194304, .i32⟩
  | 55 => ⟨S_, .i32⟩
  | 56 => ⟨S4194304, .i32⟩
  | 57 => ⟨S4194304, .i32⟩
  | 58 => ⟨S32, .i32⟩
  | 59 => ⟨S_, .i32⟩
  | 60 => ⟨S32, .i32⟩
  | 61 => ⟨S32, .i32⟩
  | 62 => ⟨S32x131072, .i32⟩
  | 63 => ⟨S4194304, .i32⟩
  | 64 => ⟨S_, .i32⟩
  | 65 => ⟨S4194304, .i32⟩
  | 66 => ⟨S4194304, .i32⟩
  | 67 => ⟨S4194304, .i32⟩
  | 68 => ⟨S_, .i32⟩
  | 69 => ⟨S4194304, .i32⟩
  | 70 => ⟨S4194304, .i32⟩
  | 71 => ⟨S4194304, .i32⟩
  | 72 => ⟨S_, .i32⟩
  | 73 => ⟨S4194304, .i32⟩
  | 74 => ⟨S4194304, .i32⟩
  | 75 => ⟨S4194304, .i32⟩
  | 76 => ⟨S4194304, .i32⟩
  | 77 => ⟨S_, .i32⟩
  | 78 => ⟨S4194304, .i32⟩
  | 79 => ⟨S4194304, .i32⟩
  | 80 => ⟨S4194304, .i32⟩
  | 81 => ⟨S4194304, .i32⟩
  | 82 => ⟨S_, .i32⟩
  | 83 => ⟨S4194304, .i32⟩
  | 84 => ⟨S4194304, .i32⟩
  | 85 => ⟨S4194304, .i32⟩
  | 86 => ⟨S4194304, .i32⟩
  | 87 => ⟨S_, .i32⟩
  | 88 => ⟨S4194304, .i32⟩
  | 89 => ⟨S4194304, .i32⟩
  | 90 => ⟨S4194304, .i32⟩
  | 91 => ⟨S4194304, .i32⟩
  | 92 => ⟨S_, .i32⟩
  | 93 => ⟨S4194304, .i32⟩
  | 94 => ⟨S4194304, .i32⟩
  | 95 => ⟨S4194304, .i32⟩
  | 96 => ⟨S4194304, .i32⟩
  | 97 => ⟨S_, .i32⟩
  | 98 => ⟨S4194304, .i32⟩
  | 99 => ⟨S4194304, .i32⟩
  | 100 => ⟨S4194304, .i32⟩
  | 101 => ⟨S4194304, .i32⟩
  | 102 => ⟨S_, .i32⟩
  | 103 => ⟨S4194304, .i32⟩
  | 104 => ⟨S4194304, .i32⟩
  | 105 => ⟨S4194304, .i32⟩
  | 106 => ⟨S4194304, .i32⟩
  | 107 => ⟨S_, .i32⟩
  | 108 => ⟨S4194304, .i32⟩
  | 109 => ⟨S4194304, .i32⟩
  | 110 => ⟨S4194304, .i32⟩
  | 111 => ⟨S4194304, .i32⟩
  | 112 => ⟨S32, .i32⟩
  | 113 => ⟨S64, .i32⟩
  | 114 => ⟨S64, .i32⟩
  | 115 => ⟨S32x64x64, .i32⟩
  | 116 => ⟨S32x64x64, .i32⟩
  | 117 => ⟨S32x64x64, .i32⟩
  | 118 => ⟨S_, .i32⟩
  | 119 => ⟨S32x64x64, .i32⟩
  | 120 => ⟨S32x64x64, .i32⟩
  | 121 => ⟨S32x64x64, .f32⟩
  | 122 => ⟨S_, .f32⟩
  | 123 => ⟨S32x64x64, .f32⟩
  | 124 => ⟨S32x64x64, .f32⟩
  | 125 => ⟨S32x64x64, .f32⟩
  | 126 => ⟨S_, .i32⟩
  | 127 => ⟨S32x64x64, .i32⟩
  | _ => ⟨S32x32x64x64x3, .f32⟩

abbrev hbmTy0_2 (i : Nat) : BufTy := match i % 128 with
  | 0 => ⟨S32x64x64, .i32⟩
  | 1 => ⟨S32x64x64, .f32⟩
  | 2 => ⟨S_, .f32⟩
  | 3 => ⟨S32x64x64, .f32⟩
  | 4 => ⟨S32x64x64, .f32⟩
  | 5 => ⟨S32x64x64, .f32⟩
  | 6 => ⟨S32x64x64, .f32⟩
  | 7 => ⟨S_, .i32⟩
  | 8 => ⟨S32x64x64, .i32⟩
  | 9 => ⟨S32x64x64, .i32⟩
  | 10 => ⟨S32x64x64, .f32⟩
  | 11 => ⟨S_, .f32⟩
  | 12 => ⟨S32x64x64, .f32⟩
  | 13 => ⟨S32x64x64, .f32⟩
  | 14 => ⟨S32x64x64, .f32⟩
  | 15 => ⟨S32x64x64, .f32⟩
  | 16 => ⟨S_, .f32⟩
  | 17 => ⟨S32x64x64, .f32⟩
  | 18 => ⟨S32x64x64, .i1⟩
  | 19 => ⟨S32x64x64, .f32⟩
  | 20 => ⟨S1x32x64x64x1, .f32⟩
  | 21 => ⟨S32x32x64x64x3, .f32⟩
  | 22 => ⟨S4194304x3, .f32⟩
  | 23 => ⟨S_, .i32⟩
  | 24 => ⟨S4194304, .i32⟩
  | 25 => ⟨S4194304, .i1⟩
  | 26 => ⟨S_, .i32⟩
  | 27 => ⟨S4194304, .i32⟩
  | 28 => ⟨S4194304, .i32⟩
  | 29 => ⟨S4194304, .i32⟩
  | 30 => ⟨S4194304x1, .i32⟩
  | 31 => ⟨S1, .i32⟩
  | 32 => ⟨S_, .i32⟩
  | 33 => ⟨S4194304x1, .i32⟩
  | 34 => ⟨S4194304x1, .i1⟩
  | 35 => ⟨S1x1, .i32⟩
  | 36 => ⟨S4194304x1, .i32⟩
  | 37 => ⟨S4194304x1, .i1⟩
  | 38 => ⟨S4194304x1, .i1⟩
  | 39 => ⟨S_, .i1⟩
  | 40 => ⟨S4194304, .i1⟩
  | 41 => ⟨S4194304x3, .f32⟩
  | 42 => ⟨S4194304x3, .i1⟩
  | 43 => ⟨S_, .f32⟩
  | 44 => ⟨S4194304x3, .f32⟩
  | 45 => ⟨S4194304x3, .f32⟩
  | 46 => ⟨S_, .i32⟩
  | 47 => ⟨S4194304, .i32⟩
  | 48 => ⟨S4194304, .i1⟩
  | 49 => ⟨S_, .i32⟩
  | 50 => ⟨S4194304, .i32⟩
  | 51 => ⟨S4194304, .i32⟩
  | 52 => ⟨S4194304, .i32⟩
  | 53 => ⟨S4194304x1, .i32⟩
  | 54 => ⟨S1, .i32⟩
  | 55 => ⟨S_, .i32⟩
  | 56 => ⟨S4194304x1, .i32⟩
  | 57 => ⟨S4194304x1, .i1⟩
  | 58 => ⟨S1x1, .i32⟩
  | 59 => ⟨S4194304x1, .i32⟩
  | 60 => ⟨S4194304x1, .i1⟩
  | 61 => ⟨S4194304x1, .i1⟩
  | 62 => ⟨S_, .i1⟩
  | 63 => ⟨S4194304, .i1⟩
  | 64 => ⟨S4194304x3, .f32⟩
  | 65 => ⟨S4194304x3, .i1⟩
  | 66 => ⟨S_, .f32⟩
  | 67 => ⟨S4194304x3, .f32⟩
  | 68 => ⟨S4194304x3, .f32⟩
  | 69 => ⟨S_, .i32⟩
  | 70 => ⟨S4194304, .i32⟩
  | 71 => ⟨S4194304, .i1⟩
  | 72 => ⟨S_, .i32⟩
  | 73 => ⟨S4194304, .i32⟩
  | 74 => ⟨S4194304, .i32⟩
  | 75 => ⟨S4194304, .i32⟩
  | 76 => ⟨S4194304x1, .i32⟩
  | 77 => ⟨S1, .i32⟩
  | 78 => ⟨S_, .i32⟩
  | 79 => ⟨S4194304x1, .i32⟩
  | 80 => ⟨S4194304x1, .i1⟩
  | 81 => ⟨S1x1, .i32⟩
  | 82 => ⟨S4194304x1, .i32⟩
  | 83 => ⟨S4194304x1, .i1⟩
  | 84 => ⟨S4194304x1, .i1⟩
  | 85 => ⟨S_, .i1⟩
  | 86 => ⟨S4194304, .i1⟩
  | 87 => ⟨S4194304x3, .f32⟩
  | 88 => ⟨S4194304x3, .i1⟩
  | 89 => ⟨S_, .f32⟩
  | 90 => ⟨S4194304x3, .f32⟩
  | 91 => ⟨S4194304x3, .f32⟩
  | 92 => ⟨S_, .i32⟩
  | 93 => ⟨S4194304, .i32⟩
  | 94 => ⟨S4194304, .i1⟩
  | 95 => ⟨S_, .i32⟩
  | 96 => ⟨S4194304, .i32⟩
  | 97 => ⟨S4194304, .i32⟩
  | 98 => ⟨S4194304, .i32⟩
  | 99 => ⟨S4194304x1, .i32⟩
  | 100 => ⟨S1, .i32⟩
  | 101 => ⟨S_, .i32⟩
  | 102 => ⟨S4194304x1, .i32⟩
  | 103 => ⟨S4194304x1, .i1⟩
  | 104 => ⟨S1x1, .i32⟩
  | 105 => ⟨S4194304x1, .i32⟩
  | 106 => ⟨S4194304x1, .i1⟩
  | 107 => ⟨S4194304x1, .i1⟩
  | 108 => ⟨S_, .i1⟩
  | 109 => ⟨S4194304, .i1⟩
  | 110 => ⟨S4194304x3, .f32⟩
  | 111 => ⟨S4194304x3, .i1⟩
  | 112 => ⟨S_, .f32⟩
  | 113 => ⟨S4194304x3, .f32⟩
  | 114 => ⟨S4194304x3, .f32⟩
  | 115 => ⟨S_, .i32⟩
  | 116 => ⟨S4194304, .i32⟩
  | 117 => ⟨S4194304, .i1⟩
  | 118 => ⟨S_, .i32⟩
  | 119 => ⟨S4194304, .i32⟩
  | 120 => ⟨S4194304, .i32⟩
  | 121 => ⟨S4194304, .i32⟩
  | 122 => ⟨S4194304x1, .i32⟩
  | 123 => ⟨S1, .i32⟩
  | 124 => ⟨S_, .i32⟩
  | 125 => ⟨S4194304x1, .i32⟩
  | 126 => ⟨S4194304x1, .i1⟩
  | 127 => ⟨S1x1, .i32⟩
  | _ => ⟨S32x32x64x64x3, .f32⟩

abbrev hbmTy0_3 (i : Nat) : BufTy := match i % 128 with
  | 0 => ⟨S4194304x1, .i32⟩
  | 1 => ⟨S4194304x1, .i1⟩
  | 2 => ⟨S4194304x1, .i1⟩
  | 3 => ⟨S_, .i1⟩
  | 4 => ⟨S4194304, .i1⟩
  | 5 => ⟨S4194304x3, .f32⟩
  | 6 => ⟨S4194304x3, .i1⟩
  | 7 => ⟨S_, .f32⟩
  | 8 => ⟨S4194304x3, .f32⟩
  | 9 => ⟨S4194304x3, .f32⟩
  | 10 => ⟨S_, .i32⟩
  | 11 => ⟨S4194304, .i32⟩
  | 12 => ⟨S4194304, .i1⟩
  | 13 => ⟨S_, .i32⟩
  | 14 => ⟨S4194304, .i32⟩
  | 15 => ⟨S4194304, .i32⟩
  | 16 => ⟨S4194304, .i32⟩
  | 17 => ⟨S4194304x1, .i32⟩
  | 18 => ⟨S1, .i32⟩
  | 19 => ⟨S_, .i32⟩
  | 20 => ⟨S4194304x1, .i32⟩
  | 21 => ⟨S4194304x1, .i1⟩
  | 22 => ⟨S1x1, .i32⟩
  | 23 => ⟨S4194304x1, .i32⟩
  | 24 => ⟨S4194304x1, .i1⟩
  | 25 => ⟨S4194304x1, .i1⟩
  | 26 => ⟨S_, .i1⟩
  | 27 => ⟨S4194304, .i1⟩
  | 28 => ⟨S4194304x3, .f32⟩
  | 29 => ⟨S4194304x3, .i1⟩
  | 30 => ⟨S_, .f32⟩
  | 31 => ⟨S4194304x3, .f32⟩
  | 32 => ⟨S4194304x3, .f32⟩
  | 33 => ⟨S_, .i32⟩
  | 34 => ⟨S4194304, .i32⟩
  | 35 => ⟨S4194304, .i1⟩
  | 36 => ⟨S_, .i32⟩
  | 37 => ⟨S4194304, .i32⟩
  | 38 => ⟨S4194304, .i32⟩
  | 39 => ⟨S4194304, .i32⟩
  | 40 => ⟨S4194304x1, .i32⟩
  | 41 => ⟨S1, .i32⟩
  | 42 => ⟨S_, .i32⟩
  | 43 => ⟨S4194304x1, .i32⟩
  | 44 => ⟨S4194304x1, .i1⟩
  | 45 => ⟨S1x1, .i32⟩
  | 46 => ⟨S4194304x1, .i32⟩
  | 47 => ⟨S4194304x1, .i1⟩
  | 48 => ⟨S4194304x1, .i1⟩
  | 49 => ⟨S_, .i1⟩
  | 50 => ⟨S4194304, .i1⟩
  | 51 => ⟨S4194304x3, .f32⟩
  | 52 => ⟨S4194304x3, .i1⟩
  | 53 => ⟨S_, .f32⟩
  | 54 => ⟨S4194304x3, .f32⟩
  | 55 => ⟨S4194304x3, .f32⟩
  | 56 => ⟨S_, .i32⟩
  | 57 => ⟨S4194304, .i32⟩
  | 58 => ⟨S4194304, .i1⟩
  | 59 => ⟨S_, .i32⟩
  | 60 => ⟨S4194304, .i32⟩
  | 61 => ⟨S4194304, .i32⟩
  | 62 => ⟨S4194304, .i32⟩
  | 63 => ⟨S4194304x1, .i32⟩
  | 64 => ⟨S1, .i32⟩
  | 65 => ⟨S_, .i32⟩
  | 66 => ⟨S4194304x1, .i32⟩
  | 67 => ⟨S4194304x1, .i1⟩
  | 68 => ⟨S1x1, .i32⟩
  | 69 => ⟨S4194304x1, .i32⟩
  | 70 => ⟨S4194304x1, .i1⟩
  | 71 => ⟨S4194304x1, .i1⟩
  | 72 => ⟨S_, .i1⟩
  | 73 => ⟨S4194304, .i1⟩
  | 74 => ⟨S4194304x3, .f32⟩
  | 75 => ⟨S4194304x3, .i1⟩
  | 76 => ⟨S_, .f32⟩
  | 77 => ⟨S4194304x3, .f32⟩
  | 78 => ⟨S4194304x3, .f32⟩
  | 79 => ⟨S4194304, .f32⟩
  | 80 => ⟨S4194304, .f32⟩
  | 81 => ⟨S4194304, .f32⟩
  | 82 => ⟨S4194304, .f32⟩
  | 83 => ⟨S4194304, .f32⟩
  | 84 => ⟨S4194304, .f32⟩
  | 85 => ⟨S4194304, .f32⟩
  | 86 => ⟨S4194304, .f32⟩
  | 87 => ⟨S4194304x1, .f32⟩
  | 88 => ⟨S4194304, .f32⟩
  | 89 => ⟨S_, .f32⟩
  | 90 => ⟨S4194304, .f32⟩
  | 91 => ⟨S4194304, .f32⟩
  | 92 => ⟨S4194304, .f32⟩
  | 93 => ⟨S4194304x1, .f32⟩
  | 94 => ⟨S_, .f32⟩
  | 95 => ⟨S4194304, .f32⟩
  | 96 => ⟨S4194304, .f32⟩
  | 97 => ⟨S4194304, .f32⟩
  | 98 => ⟨S4194304, .f32⟩
  | 99 => ⟨S4194304x1, .f32⟩
  | 100 => ⟨S_, .f32⟩
  | 101 => ⟨S4194304, .f32⟩
  | 102 => ⟨S4194304, .f32⟩
  | 103 => ⟨S4194304, .f32⟩
  | 104 => ⟨S_, .f32⟩
  | 105 => ⟨S4194304, .f32⟩
  | 106 => ⟨S4194304, .f32⟩
  | 107 => ⟨S4194304, .f32⟩
  | 108 => ⟨S4194304x1, .f32⟩
  | 109 => ⟨S_, .f32⟩
  | 110 => ⟨S4194304, .f32⟩
  | 111 => ⟨S4194304, .f32⟩
  | 112 => ⟨S4194304, .f32⟩
  | 113 => ⟨S4194304, .f32⟩
  | 114 => ⟨S4194304x1, .f32⟩
  | 115 => ⟨S_, .f32⟩
  | 116 => ⟨S4194304, .f32⟩
  | 117 => ⟨S4194304, .f32⟩
  | 118 => ⟨S4194304, .f32⟩
  | 119 => ⟨S_, .f32⟩
  | 120 => ⟨S4194304, .f32⟩
  | 121 => ⟨S4194304, .f32⟩
  | 122 => ⟨S4194304, .f32⟩
  | 123 => ⟨S4194304x1, .f32⟩
  | 124 => ⟨S_, .f32⟩
  | 125 => ⟨S4194304, .f32⟩
  | 126 => ⟨S4194304, .f32⟩
  | 127 => ⟨S_, .f32⟩
  | _ => ⟨S32x32x64x64x3, .f32⟩

abbrev hbmTy0_4 (i : Nat) : BufTy := match i % 128 with
  | 0 => ⟨S4194304, .f32⟩
  | 1 => ⟨S4194304, .f32⟩
  | 2 => ⟨S4194304, .f32⟩
  | 3 => ⟨S4194304, .f32⟩
  | 4 => ⟨S4194304x1, .f32⟩
  | 5 => ⟨S_, .f32⟩
  | 6 => ⟨S4194304, .f32⟩
  | 7 => ⟨S4194304, .f32⟩
  | 8 => ⟨S_, .f32⟩
  | 9 => ⟨S4194304, .f32⟩
  | 10 => ⟨S4194304, .f32⟩
  | 11 => ⟨S4194304, .f32⟩
  | 12 => ⟨S_, .f32⟩
  | 13 => ⟨S4194304, .f32⟩
  | 14 => ⟨S4194304, .f32⟩
  | 15 => ⟨S4194304, .f32⟩
  | 16 => ⟨S4194304x1, .f32⟩
  | 17 => ⟨S4194304x3, .f32⟩
  | 18 => ⟨S4194304x3, .f32⟩
  | 19 => ⟨S4194304x3, .f32⟩
  | 20 => ⟨S4194304x3, .f32⟩
  | 21 => ⟨S4194304x3, .f32⟩
  | 22 => ⟨S4194304x3, .f32⟩
  | 23 => ⟨S4194304x3, .f32⟩
  | 24 => ⟨S4194304x3, .f32⟩
  | 25 => ⟨S4194304x3, .f32⟩
  | 26 => ⟨S4194304x3, .f32⟩
  | 27 => ⟨S4194304x3, .f32⟩
  | 28 => ⟨S4194304x3, .f32⟩
  | 29 => ⟨S4194304x3, .f32⟩
  | 30 => ⟨S4194304x3, .f32⟩
  | 31 => ⟨S4194304x3, .f32⟩
  | 32 => ⟨S4194304x3, .f32⟩
  | 33 => ⟨S4194304x3, .f32⟩
  | 34 => ⟨S4194304x3, .f32⟩
  | 35 => ⟨S4194304x3, .f32⟩
  | 36 => ⟨S4194304x3, .f32⟩
  | 37 => ⟨S4194304x3, .f32⟩
  | 38 => ⟨S4194304x3, .f32⟩
  | 39 => ⟨S4194304x3, .f32⟩
  | 40 => ⟨S32x32x64x64x3, .f32⟩
  | _ => ⟨S32x32x64x64x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S32x32x64x64x3, .f32⟩

abbrev bufTy : (tb : Table) → Fin (tcTables nBuf tb) → BufTy
  | .hbm, ⟨i, _⟩ => hbmTy i
  | _, _ => ⟨S32x32x64x64x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_cst : Ref sig .tc := ⟨.hbm, 12, rfl⟩
abbrev main_call0_v3 : Ref sig .tc := ⟨.hbm, 13, rfl⟩
abbrev main_call0_v4 : Ref sig .tc := ⟨.hbm, 14, rfl⟩
abbrev main_call0_cst_0 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_cst_1 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_v15 : Ref sig .tc := ⟨.hbm, 27, rfl⟩
abbrev main_call0_v16 : Ref sig .tc := ⟨.hbm, 28, rfl⟩
abbrev main_v4 : Ref sig .tc := ⟨.hbm, 29, rfl⟩
abbrev main_cst_1 : Ref sig .tc := ⟨.hbm, 30, rfl⟩
abbrev main_cst_2 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_cst : Ref sig .tc := ⟨.hbm, 35, rfl⟩
abbrev main_call1_v3 : Ref sig .tc := ⟨.hbm, 36, rfl⟩
abbrev main_call1_v4 : Ref sig .tc := ⟨.hbm, 37, rfl⟩
abbrev main_call1_cst_0 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_cst_1 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_v15 : Ref sig .tc := ⟨.hbm, 50, rfl⟩
abbrev main_call1_v16 : Ref sig .tc := ⟨.hbm, 51, rfl⟩
abbrev main_v5 : Ref sig .tc := ⟨.hbm, 52, rfl⟩
abbrev main_cst_3 : Ref sig .tc := ⟨.hbm, 53, rfl⟩
abbrev main_cst_4 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_call2_cst : Ref sig .tc := ⟨.hbm, 58, rfl⟩
abbrev main_call2_v3 : Ref sig .tc := ⟨.hbm, 59, rfl⟩
abbrev main_call2_v4 : Ref sig .tc := ⟨.hbm, 60, rfl⟩
abbrev main_call2_cst_0 : Ref sig .tc := ⟨.hbm, 61, rfl⟩
abbrev main_call2_v5 : Ref sig .tc := ⟨.hbm, 62, rfl⟩
abbrev main_call2_v6 : Ref sig .tc := ⟨.hbm, 63, rfl⟩
abbrev main_call2_v7 : Ref sig .tc := ⟨.hbm, 64, rfl⟩
abbrev main_call2_cst_1 : Ref sig .tc := ⟨.hbm, 65, rfl⟩
abbrev main_call2_v8 : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_call2_v12 : Ref sig .tc := ⟨.hbm, 70, rfl⟩
abbrev main_call2_v13 : Ref sig .tc := ⟨.hbm, 71, rfl⟩
abbrev main_call2_v14 : Ref sig .tc := ⟨.hbm, 72, rfl⟩
abbrev main_call2_v15 : Ref sig .tc := ⟨.hbm, 73, rfl⟩
abbrev main_call2_v16 : Ref sig .tc := ⟨.hbm, 74, rfl⟩
abbrev main_v6 : Ref sig .tc := ⟨.hbm, 75, rfl⟩
abbrev main_v7 : Ref sig .tc := ⟨.hbm, 76, rfl⟩
abbrev main_v8 : Ref sig .tc := ⟨.hbm, 77, rfl⟩
abbrev main_v9 : Ref sig .tc := ⟨.hbm, 78, rfl⟩
abbrev main_v10 : Ref sig .tc := ⟨.hbm, 79, rfl⟩
abbrev main_v11 : Ref sig .tc := ⟨.hbm, 80, rfl⟩
abbrev main_v12 : Ref sig .tc := ⟨.hbm, 81, rfl⟩
abbrev main_v13 : Ref sig .tc := ⟨.hbm, 82, rfl⟩
abbrev main_v14 : Ref sig .tc := ⟨.hbm, 83, rfl⟩
abbrev main_v15 : Ref sig .tc := ⟨.hbm, 84, rfl⟩
abbrev main_v16 : Ref sig .tc := ⟨.hbm, 85, rfl⟩
abbrev main_v17 : Ref sig .tc := ⟨.hbm, 86, rfl⟩
abbrev main_v18 : Ref sig .tc := ⟨.hbm, 87, rfl⟩
abbrev main_v19 : Ref sig .tc := ⟨.hbm, 88, rfl⟩
abbrev main_v20 : Ref sig .tc := ⟨.hbm, 89, rfl⟩
abbrev main_v21 : Ref sig .tc := ⟨.hbm, 90, rfl⟩
abbrev main_v22 : Ref sig .tc := ⟨.hbm, 91, rfl⟩
abbrev main_v23 : Ref sig .tc := ⟨.hbm, 92, rfl⟩
abbrev main_v24 : Ref sig .tc := ⟨.hbm, 93, rfl⟩
abbrev main_v25 : Ref sig .tc := ⟨.hbm, 94, rfl⟩
abbrev main_v26 : Ref sig .tc := ⟨.hbm, 95, rfl⟩
abbrev main_cst_5 : Ref sig .tc := ⟨.hbm, 96, rfl⟩
abbrev main_v27 : Ref sig .tc := ⟨.hbm, 97, rfl⟩
abbrev main_v28 : Ref sig .tc := ⟨.hbm, 98, rfl⟩
abbrev main_cst_6 : Ref sig .tc := ⟨.hbm, 99, rfl⟩
abbrev main_v29 : Ref sig .tc := ⟨.hbm, 100, rfl⟩
abbrev main_v30 : Ref sig .tc := ⟨.hbm, 101, rfl⟩
abbrev main_cst_7 : Ref sig .tc := ⟨.hbm, 102, rfl⟩
abbrev main_v31 : Ref sig .tc := ⟨.hbm, 103, rfl⟩
abbrev main_v32 : Ref sig .tc := ⟨.hbm, 104, rfl⟩
abbrev main_cst_8 : Ref sig .tc := ⟨.hbm, 105, rfl⟩
abbrev main_v33 : Ref sig .tc := ⟨.hbm, 106, rfl⟩
abbrev main_v34 : Ref sig .tc := ⟨.hbm, 107, rfl⟩
abbrev main_cst_9 : Ref sig .tc := ⟨.hbm, 108, rfl⟩
abbrev main_v35 : Ref sig .tc := ⟨.hbm, 109, rfl⟩
abbrev main_v36 : Ref sig .tc := ⟨.hbm, 110, rfl⟩
abbrev main_cst_10 : Ref sig .tc := ⟨.hbm, 111, rfl⟩
abbrev main_v37 : Ref sig .tc := ⟨.hbm, 112, rfl⟩
abbrev main_v38 : Ref sig .tc := ⟨.hbm, 113, rfl⟩
abbrev main_cst_11 : Ref sig .tc := ⟨.hbm, 114, rfl⟩
abbrev main_v39 : Ref sig .tc := ⟨.hbm, 115, rfl⟩
abbrev main_v40 : Ref sig .tc := ⟨.hbm, 116, rfl⟩
abbrev main_cst_12 : Ref sig .tc := ⟨.hbm, 117, rfl⟩
abbrev main_v41 : Ref sig .tc := ⟨.hbm, 118, rfl⟩
abbrev main_v42 : Ref sig .tc := ⟨.hbm, 119, rfl⟩
abbrev main_cst_13 : Ref sig .tc := ⟨.hbm, 120, rfl⟩
abbrev main_v43 : Ref sig .tc := ⟨.hbm, 121, rfl⟩
abbrev main_v44 : Ref sig .tc := ⟨.hbm, 122, rfl⟩
abbrev main_v45 : Ref sig .tc := ⟨.hbm, 123, rfl⟩
abbrev main_v46 : Ref sig .tc := ⟨.hbm, 124, rfl⟩
abbrev main_c : Ref sig .tc := ⟨.hbm, 125, rfl⟩
abbrev main_v47 : Ref sig .tc := ⟨.hbm, 126, rfl⟩
abbrev main_v48 : Ref sig .tc := ⟨.hbm, 127, rfl⟩
abbrev main_v49 : Ref sig .tc := ⟨.hbm, 128, rfl⟩
abbrev main_v50 : Ref sig .tc := ⟨.hbm, 129, rfl⟩
abbrev main_c_14 : Ref sig .tc := ⟨.hbm, 130, rfl⟩
abbrev main_v51 : Ref sig .tc := ⟨.hbm, 131, rfl⟩
abbrev main_v52 : Ref sig .tc := ⟨.hbm, 132, rfl⟩
abbrev main_v53 : Ref sig .tc := ⟨.hbm, 133, rfl⟩
abbrev main_v54 : Ref sig .tc := ⟨.hbm, 134, rfl⟩
abbrev main_c_15 : Ref sig .tc := ⟨.hbm, 135, rfl⟩
abbrev main_v55 : Ref sig .tc := ⟨.hbm, 136, rfl⟩
abbrev main_v56 : Ref sig .tc := ⟨.hbm, 137, rfl⟩
abbrev main_c_16 : Ref sig .tc := ⟨.hbm, 138, rfl⟩
abbrev main_c_17 : Ref sig .tc := ⟨.hbm, 139, rfl⟩
abbrev main_call3_v0 : Ref sig .tc := ⟨.hbm, 140, rfl⟩
abbrev main_call3_v1 : Ref sig .tc := ⟨.hbm, 141, rfl⟩
abbrev main_call3_v2 : Ref sig .tc := ⟨.hbm, 142, rfl⟩
abbrev main_call3_v3 : Ref sig .tc := ⟨.hbm, 143, rfl⟩
abbrev main_call3_v4 : Ref sig .tc := ⟨.hbm, 144, rfl⟩
abbrev main_v57 : Ref sig .tc := ⟨.hbm, 145, rfl⟩
abbrev main_c_18 : Ref sig .tc := ⟨.hbm, 146, rfl⟩
abbrev main_c_19 : Ref sig .tc := ⟨.hbm, 147, rfl⟩
abbrev main_call4_v0 : Ref sig .tc := ⟨.hbm, 148, rfl⟩
abbrev main_call4_v1 : Ref sig .tc := ⟨.hbm, 149, rfl⟩
abbrev main_call4_v2 : Ref sig .tc := ⟨.hbm, 150, rfl⟩
abbrev main_call4_v3 : Ref sig .tc := ⟨.hbm, 151, rfl⟩
abbrev main_call4_v4 : Ref sig .tc := ⟨.hbm, 152, rfl⟩
abbrev main_v58 : Ref sig .tc := ⟨.hbm, 153, rfl⟩
abbrev main_c_20 : Ref sig .tc := ⟨.hbm, 154, rfl⟩
abbrev main_c_21 : Ref sig .tc := ⟨.hbm, 155, rfl⟩
abbrev main_call5_v0 : Ref sig .tc := ⟨.hbm, 156, rfl⟩
abbrev main_call5_v1 : Ref sig .tc := ⟨.hbm, 157, rfl⟩
abbrev main_call5_v2 : Ref sig .tc := ⟨.hbm, 158, rfl⟩
abbrev main_call5_v3 : Ref sig .tc := ⟨.hbm, 159, rfl⟩
abbrev main_call5_v4 : Ref sig .tc := ⟨.hbm, 160, rfl⟩
abbrev main_v59 : Ref sig .tc := ⟨.hbm, 161, rfl⟩
abbrev main_c_22 : Ref sig .tc := ⟨.hbm, 162, rfl⟩
abbrev main_c_23 : Ref sig .tc := ⟨.hbm, 163, rfl⟩
abbrev main_call6_v0 : Ref sig .tc := ⟨.hbm, 164, rfl⟩
abbrev main_call6_v1 : Ref sig .tc := ⟨.hbm, 165, rfl⟩
abbrev main_call6_v2 : Ref sig .tc := ⟨.hbm, 166, rfl⟩
abbrev main_call6_v3 : Ref sig .tc := ⟨.hbm, 167, rfl⟩
abbrev main_call6_v4 : Ref sig .tc := ⟨.hbm, 168, rfl⟩
abbrev main_v60 : Ref sig .tc := ⟨.hbm, 169, rfl⟩
abbrev main_c_24 : Ref sig .tc := ⟨.hbm, 170, rfl⟩
abbrev main_c_25 : Ref sig .tc := ⟨.hbm, 171, rfl⟩
abbrev main_call7_v0 : Ref sig .tc := ⟨.hbm, 172, rfl⟩
abbrev main_call7_v1 : Ref sig .tc := ⟨.hbm, 173, rfl⟩
abbrev main_call7_v2 : Ref sig .tc := ⟨.hbm, 174, rfl⟩
abbrev main_call7_v3 : Ref sig .tc := ⟨.hbm, 175, rfl⟩
abbrev main_call7_v4 : Ref sig .tc := ⟨.hbm, 176, rfl⟩
abbrev main_v61 : Ref sig .tc := ⟨.hbm, 177, rfl⟩
abbrev main_c_26 : Ref sig .tc := ⟨.hbm, 178, rfl⟩
abbrev main_c_27 : Ref sig .tc := ⟨.hbm, 179, rfl⟩
abbrev main_call8_v0 : Ref sig .tc := ⟨.hbm, 180, rfl⟩
abbrev main_call8_v1 : Ref sig .tc := ⟨.hbm, 181, rfl⟩
abbrev main_call8_v2 : Ref sig .tc := ⟨.hbm, 182, rfl⟩
abbrev main_call8_v3 : Ref sig .tc := ⟨.hbm, 183, rfl⟩
abbrev main_call8_v4 : Ref sig .tc := ⟨.hbm, 184, rfl⟩
abbrev main_v62 : Ref sig .tc := ⟨.hbm, 185, rfl⟩
abbrev main_v63 : Ref sig .tc := ⟨.hbm, 186, rfl⟩
abbrev main_c_28 : Ref sig .tc := ⟨.hbm, 187, rfl⟩
abbrev main_v64 : Ref sig .tc := ⟨.hbm, 188, rfl⟩
abbrev main_v65 : Ref sig .tc := ⟨.hbm, 189, rfl⟩
abbrev main_v66 : Ref sig .tc := ⟨.hbm, 190, rfl⟩
abbrev main_v67 : Ref sig .tc := ⟨.hbm, 191, rfl⟩
abbrev main_c_29 : Ref sig .tc := ⟨.hbm, 192, rfl⟩
abbrev main_v68 : Ref sig .tc := ⟨.hbm, 193, rfl⟩
abbrev main_v69 : Ref sig .tc := ⟨.hbm, 194, rfl⟩
abbrev main_v70 : Ref sig .tc := ⟨.hbm, 195, rfl⟩
abbrev main_c_30 : Ref sig .tc := ⟨.hbm, 196, rfl⟩
abbrev main_v71 : Ref sig .tc := ⟨.hbm, 197, rfl⟩
abbrev main_v72 : Ref sig .tc := ⟨.hbm, 198, rfl⟩
abbrev main_v73 : Ref sig .tc := ⟨.hbm, 199, rfl⟩
abbrev main_c_31 : Ref sig .tc := ⟨.hbm, 200, rfl⟩
abbrev main_v74 : Ref sig .tc := ⟨.hbm, 201, rfl⟩
abbrev main_v75 : Ref sig .tc := ⟨.hbm, 202, rfl⟩
abbrev main_v76 : Ref sig .tc := ⟨.hbm, 203, rfl⟩
abbrev main_v77 : Ref sig .tc := ⟨.hbm, 204, rfl⟩
abbrev main_c_32 : Ref sig .tc := ⟨.hbm, 205, rfl⟩
abbrev main_v78 : Ref sig .tc := ⟨.hbm, 206, rfl⟩
abbrev main_v79 : Ref sig .tc := ⟨.hbm, 207, rfl⟩
abbrev main_v80 : Ref sig .tc := ⟨.hbm, 208, rfl⟩
abbrev main_v81 : Ref sig .tc := ⟨.hbm, 209, rfl⟩
abbrev main_c_33 : Ref sig .tc := ⟨.hbm, 210, rfl⟩
abbrev main_v82 : Ref sig .tc := ⟨.hbm, 211, rfl⟩
abbrev main_v83 : Ref sig .tc := ⟨.hbm, 212, rfl⟩
abbrev main_v84 : Ref sig .tc := ⟨.hbm, 213, rfl⟩
abbrev main_v85 : Ref sig .tc := ⟨.hbm, 214, rfl⟩
abbrev main_c_34 : Ref sig .tc := ⟨.hbm, 215, rfl⟩
abbrev main_v86 : Ref sig .tc := ⟨.hbm, 216, rfl⟩
abbrev main_v87 : Ref sig .tc := ⟨.hbm, 217, rfl⟩
abbrev main_v88 : Ref sig .tc := ⟨.hbm, 218, rfl⟩
abbrev main_v89 : Ref sig .tc := ⟨.hbm, 219, rfl⟩
abbrev main_c_35 : Ref sig .tc := ⟨.hbm, 220, rfl⟩
abbrev main_v90 : Ref sig .tc := ⟨.hbm, 221, rfl⟩
abbrev main_v91 : Ref sig .tc := ⟨.hbm, 222, rfl⟩
abbrev main_v92 : Ref sig .tc := ⟨.hbm, 223, rfl⟩
abbrev main_v93 : Ref sig .tc := ⟨.hbm, 224, rfl⟩
abbrev main_c_36 : Ref sig .tc := ⟨.hbm, 225, rfl⟩
abbrev main_v94 : Ref sig .tc := ⟨.hbm, 226, rfl⟩
abbrev main_v95 : Ref sig .tc := ⟨.hbm, 227, rfl⟩
abbrev main_v96 : Ref sig .tc := ⟨.hbm, 228, rfl⟩
abbrev main_v97 : Ref sig .tc := ⟨.hbm, 229, rfl⟩
abbrev main_c_37 : Ref sig .tc := ⟨.hbm, 230, rfl⟩
abbrev main_v98 : Ref sig .tc := ⟨.hbm, 231, rfl⟩
abbrev main_v99 : Ref sig .tc := ⟨.hbm, 232, rfl⟩
abbrev main_v100 : Ref sig .tc := ⟨.hbm, 233, rfl⟩
abbrev main_v101 : Ref sig .tc := ⟨.hbm, 234, rfl⟩
abbrev main_c_38 : Ref sig .tc := ⟨.hbm, 235, rfl⟩
abbrev main_v102 : Ref sig .tc := ⟨.hbm, 236, rfl⟩
abbrev main_v103 : Ref sig .tc := ⟨.hbm, 237, rfl⟩
abbrev main_v104 : Ref sig .tc := ⟨.hbm, 238, rfl⟩
abbrev main_v105 : Ref sig .tc := ⟨.hbm, 239, rfl⟩
abbrev main_v106 : Ref sig .tc := ⟨.hbm, 240, rfl⟩
abbrev main_v107 : Ref sig .tc := ⟨.hbm, 241, rfl⟩
abbrev main_v108 : Ref sig .tc := ⟨.hbm, 242, rfl⟩
abbrev main_v109 : Ref sig .tc := ⟨.hbm, 243, rfl⟩
abbrev main_v110 : Ref sig .tc := ⟨.hbm, 244, rfl⟩
abbrev main_v111 : Ref sig .tc := ⟨.hbm, 245, rfl⟩
abbrev main_c_39 : Ref sig .tc := ⟨.hbm, 246, rfl⟩
abbrev main_v112 : Ref sig .tc := ⟨.hbm, 247, rfl⟩
abbrev main_v113 : Ref sig .tc := ⟨.hbm, 248, rfl⟩
abbrev main_v114 : Ref sig .tc := ⟨.hbm, 249, rfl⟩
abbrev main_cst_40 : Ref sig .tc := ⟨.hbm, 250, rfl⟩
abbrev main_v115 : Ref sig .tc := ⟨.hbm, 251, rfl⟩
abbrev main_v116 : Ref sig .tc := ⟨.hbm, 252, rfl⟩
abbrev main_v117 : Ref sig .tc := ⟨.hbm, 253, rfl⟩
abbrev main_c_41 : Ref sig .tc := ⟨.hbm, 254, rfl⟩
abbrev main_v118 : Ref sig .tc := ⟨.hbm, 255, rfl⟩
abbrev main_v119 : Ref sig .tc := ⟨.hbm, 256, rfl⟩
abbrev main_v120 : Ref sig .tc := ⟨.hbm, 257, rfl⟩
abbrev main_cst_42 : Ref sig .tc := ⟨.hbm, 258, rfl⟩
abbrev main_v121 : Ref sig .tc := ⟨.hbm, 259, rfl⟩
abbrev main_v122 : Ref sig .tc := ⟨.hbm, 260, rfl⟩
abbrev main_v123 : Ref sig .tc := ⟨.hbm, 261, rfl⟩
abbrev main_v124 : Ref sig .tc := ⟨.hbm, 262, rfl⟩
abbrev main_c_43 : Ref sig .tc := ⟨.hbm, 263, rfl⟩
abbrev main_v125 : Ref sig .tc := ⟨.hbm, 264, rfl⟩
abbrev main_v126 : Ref sig .tc := ⟨.hbm, 265, rfl⟩
abbrev main_v127 : Ref sig .tc := ⟨.hbm, 266, rfl⟩
abbrev main_cst_44 : Ref sig .tc := ⟨.hbm, 267, rfl⟩
abbrev main_v128 : Ref sig .tc := ⟨.hbm, 268, rfl⟩
abbrev main_v129 : Ref sig .tc := ⟨.hbm, 269, rfl⟩
abbrev main_v130 : Ref sig .tc := ⟨.hbm, 270, rfl⟩
abbrev main_v131 : Ref sig .tc := ⟨.hbm, 271, rfl⟩
abbrev main_cst_45 : Ref sig .tc := ⟨.hbm, 272, rfl⟩
abbrev main_v132 : Ref sig .tc := ⟨.hbm, 273, rfl⟩
abbrev main_v133 : Ref sig .tc := ⟨.hbm, 274, rfl⟩
abbrev main_v134 : Ref sig .tc := ⟨.hbm, 275, rfl⟩
abbrev main_v135 : Ref sig .tc := ⟨.hbm, 276, rfl⟩
abbrev main_v136 : Ref sig .tc := ⟨.hbm, 277, rfl⟩
abbrev main_v137 : Ref sig .tc := ⟨.hbm, 278, rfl⟩
abbrev main_call9_c : Ref sig .tc := ⟨.hbm, 279, rfl⟩
abbrev main_call9_v0 : Ref sig .tc := ⟨.hbm, 280, rfl⟩
abbrev main_call9_v1 : Ref sig .tc := ⟨.hbm, 281, rfl⟩
abbrev main_call9_c_0 : Ref sig .tc := ⟨.hbm, 282, rfl⟩
abbrev main_call9_v2 : Ref sig .tc := ⟨.hbm, 283, rfl⟩
abbrev main_call9_v3 : Ref sig .tc := ⟨.hbm, 284, rfl⟩
abbrev main_call9_v4 : Ref sig .tc := ⟨.hbm, 285, rfl⟩
abbrev main_call9_v5 : Ref sig .tc := ⟨.hbm, 286, rfl⟩
abbrev main_call9_c_1 : Ref sig .tc := ⟨.hbm, 287, rfl⟩
abbrev main_call9_c_2 : Ref sig .tc := ⟨.hbm, 288, rfl⟩
abbrev main_call9_v6 : Ref sig .tc := ⟨.hbm, 289, rfl⟩
abbrev main_call9_v7 : Ref sig .tc := ⟨.hbm, 290, rfl⟩
abbrev main_call9_v8 : Ref sig .tc := ⟨.hbm, 291, rfl⟩
abbrev main_call9_v9 : Ref sig .tc := ⟨.hbm, 292, rfl⟩
abbrev main_call9_v10 : Ref sig .tc := ⟨.hbm, 293, rfl⟩
abbrev main_call9_v11 : Ref sig .tc := ⟨.hbm, 294, rfl⟩
abbrev main_call9_c_3 : Ref sig .tc := ⟨.hbm, 295, rfl⟩
abbrev main_call9_v12 : Ref sig .tc := ⟨.hbm, 296, rfl⟩
abbrev main_call9_v13 : Ref sig .tc := ⟨.hbm, 297, rfl⟩
abbrev main_call9_v14 : Ref sig .tc := ⟨.hbm, 298, rfl⟩
abbrev main_call9_cst : Ref sig .tc := ⟨.hbm, 299, rfl⟩
abbrev main_call9_v15 : Ref sig .tc := ⟨.hbm, 300, rfl⟩
abbrev main_v138 : Ref sig .tc := ⟨.hbm, 301, rfl⟩
abbrev main_call10_c : Ref sig .tc := ⟨.hbm, 302, rfl⟩
abbrev main_call10_v0 : Ref sig .tc := ⟨.hbm, 303, rfl⟩
abbrev main_call10_v1 : Ref sig .tc := ⟨.hbm, 304, rfl⟩
abbrev main_call10_c_0 : Ref sig .tc := ⟨.hbm, 305, rfl⟩
abbrev main_call10_v2 : Ref sig .tc := ⟨.hbm, 306, rfl⟩
abbrev main_call10_v3 : Ref sig .tc := ⟨.hbm, 307, rfl⟩
abbrev main_call10_v4 : Ref sig .tc := ⟨.hbm, 308, rfl⟩
abbrev main_call10_v5 : Ref sig .tc := ⟨.hbm, 309, rfl⟩
abbrev main_call10_c_1 : Ref sig .tc := ⟨.hbm, 310, rfl⟩
abbrev main_call10_c_2 : Ref sig .tc := ⟨.hbm, 311, rfl⟩
abbrev main_call10_v6 : Ref sig .tc := ⟨.hbm, 312, rfl⟩
abbrev main_call10_v7 : Ref sig .tc := ⟨.hbm, 313, rfl⟩
abbrev main_call10_v8 : Ref sig .tc := ⟨.hbm, 314, rfl⟩
abbrev main_call10_v9 : Ref sig .tc := ⟨.hbm, 315, rfl⟩
abbrev main_call10_v10 : Ref sig .tc := ⟨.hbm, 316, rfl⟩
abbrev main_call10_v11 : Ref sig .tc := ⟨.hbm, 317, rfl⟩
abbrev main_call10_c_3 : Ref sig .tc := ⟨.hbm, 318, rfl⟩
abbrev main_call10_v12 : Ref sig .tc := ⟨.hbm, 319, rfl⟩
abbrev main_call10_v13 : Ref sig .tc := ⟨.hbm, 320, rfl⟩
abbrev main_call10_v14 : Ref sig .tc := ⟨.hbm, 321, rfl⟩
abbrev main_call10_cst : Ref sig .tc := ⟨.hbm, 322, rfl⟩
abbrev main_call10_v15 : Ref sig .tc := ⟨.hbm, 323, rfl⟩
abbrev main_v139 : Ref sig .tc := ⟨.hbm, 324, rfl⟩
abbrev main_call11_c : Ref sig .tc := ⟨.hbm, 325, rfl⟩
abbrev main_call11_v0 : Ref sig .tc := ⟨.hbm, 326, rfl⟩
abbrev main_call11_v1 : Ref sig .tc := ⟨.hbm, 327, rfl⟩
abbrev main_call11_c_0 : Ref sig .tc := ⟨.hbm, 328, rfl⟩
abbrev main_call11_v2 : Ref sig .tc := ⟨.hbm, 329, rfl⟩
abbrev main_call11_v3 : Ref sig .tc := ⟨.hbm, 330, rfl⟩
abbrev main_call11_v4 : Ref sig .tc := ⟨.hbm, 331, rfl⟩
abbrev main_call11_v5 : Ref sig .tc := ⟨.hbm, 332, rfl⟩
abbrev main_call11_c_1 : Ref sig .tc := ⟨.hbm, 333, rfl⟩
abbrev main_call11_c_2 : Ref sig .tc := ⟨.hbm, 334, rfl⟩
abbrev main_call11_v6 : Ref sig .tc := ⟨.hbm, 335, rfl⟩
abbrev main_call11_v7 : Ref sig .tc := ⟨.hbm, 336, rfl⟩
abbrev main_call11_v8 : Ref sig .tc := ⟨.hbm, 337, rfl⟩
abbrev main_call11_v9 : Ref sig .tc := ⟨.hbm, 338, rfl⟩
abbrev main_call11_v10 : Ref sig .tc := ⟨.hbm, 339, rfl⟩
abbrev main_call11_v11 : Ref sig .tc := ⟨.hbm, 340, rfl⟩
abbrev main_call11_c_3 : Ref sig .tc := ⟨.hbm, 341, rfl⟩
abbrev main_call11_v12 : Ref sig .tc := ⟨.hbm, 342, rfl⟩
abbrev main_call11_v13 : Ref sig .tc := ⟨.hbm, 343, rfl⟩
abbrev main_call11_v14 : Ref sig .tc := ⟨.hbm, 344, rfl⟩
abbrev main_call11_cst : Ref sig .tc := ⟨.hbm, 345, rfl⟩
abbrev main_call11_v15 : Ref sig .tc := ⟨.hbm, 346, rfl⟩
abbrev main_v140 : Ref sig .tc := ⟨.hbm, 347, rfl⟩
abbrev main_call12_c : Ref sig .tc := ⟨.hbm, 348, rfl⟩
abbrev main_call12_v0 : Ref sig .tc := ⟨.hbm, 349, rfl⟩
abbrev main_call12_v1 : Ref sig .tc := ⟨.hbm, 350, rfl⟩
abbrev main_call12_c_0 : Ref sig .tc := ⟨.hbm, 351, rfl⟩
abbrev main_call12_v2 : Ref sig .tc := ⟨.hbm, 352, rfl⟩
abbrev main_call12_v3 : Ref sig .tc := ⟨.hbm, 353, rfl⟩
abbrev main_call12_v4 : Ref sig .tc := ⟨.hbm, 354, rfl⟩
abbrev main_call12_v5 : Ref sig .tc := ⟨.hbm, 355, rfl⟩
abbrev main_call12_c_1 : Ref sig .tc := ⟨.hbm, 356, rfl⟩
abbrev main_call12_c_2 : Ref sig .tc := ⟨.hbm, 357, rfl⟩
abbrev main_call12_v6 : Ref sig .tc := ⟨.hbm, 358, rfl⟩
abbrev main_call12_v7 : Ref sig .tc := ⟨.hbm, 359, rfl⟩
abbrev main_call12_v8 : Ref sig .tc := ⟨.hbm, 360, rfl⟩
abbrev main_call12_v9 : Ref sig .tc := ⟨.hbm, 361, rfl⟩
abbrev main_call12_v10 : Ref sig .tc := ⟨.hbm, 362, rfl⟩
abbrev main_call12_v11 : Ref sig .tc := ⟨.hbm, 363, rfl⟩
abbrev main_call12_c_3 : Ref sig .tc := ⟨.hbm, 364, rfl⟩
abbrev main_call12_v12 : Ref sig .tc := ⟨.hbm, 365, rfl⟩
abbrev main_call12_v13 : Ref sig .tc := ⟨.hbm, 366, rfl⟩
abbrev main_call12_v14 : Ref sig .tc := ⟨.hbm, 367, rfl⟩
abbrev main_call12_cst : Ref sig .tc := ⟨.hbm, 368, rfl⟩
abbrev main_call12_v15 : Ref sig .tc := ⟨.hbm, 369, rfl⟩
abbrev main_v141 : Ref sig .tc := ⟨.hbm, 370, rfl⟩
abbrev main_call13_c : Ref sig .tc := ⟨.hbm, 371, rfl⟩
abbrev main_call13_v0 : Ref sig .tc := ⟨.hbm, 372, rfl⟩
abbrev main_call13_v1 : Ref sig .tc := ⟨.hbm, 373, rfl⟩
abbrev main_call13_c_0 : Ref sig .tc := ⟨.hbm, 374, rfl⟩
abbrev main_call13_v2 : Ref sig .tc := ⟨.hbm, 375, rfl⟩
abbrev main_call13_v3 : Ref sig .tc := ⟨.hbm, 376, rfl⟩
abbrev main_call13_v4 : Ref sig .tc := ⟨.hbm, 377, rfl⟩
abbrev main_call13_v5 : Ref sig .tc := ⟨.hbm, 378, rfl⟩
abbrev main_call13_c_1 : Ref sig .tc := ⟨.hbm, 379, rfl⟩
abbrev main_call13_c_2 : Ref sig .tc := ⟨.hbm, 380, rfl⟩
abbrev main_call13_v6 : Ref sig .tc := ⟨.hbm, 381, rfl⟩
abbrev main_call13_v7 : Ref sig .tc := ⟨.hbm, 382, rfl⟩
abbrev main_call13_v8 : Ref sig .tc := ⟨.hbm, 383, rfl⟩
abbrev main_call13_v9 : Ref sig .tc := ⟨.hbm, 384, rfl⟩
abbrev main_call13_v10 : Ref sig .tc := ⟨.hbm, 385, rfl⟩
abbrev main_call13_v11 : Ref sig .tc := ⟨.hbm, 386, rfl⟩
abbrev main_call13_c_3 : Ref sig .tc := ⟨.hbm, 387, rfl⟩
abbrev main_call13_v12 : Ref sig .tc := ⟨.hbm, 388, rfl⟩
abbrev main_call13_v13 : Ref sig .tc := ⟨.hbm, 389, rfl⟩
abbrev main_call13_v14 : Ref sig .tc := ⟨.hbm, 390, rfl⟩
abbrev main_call13_cst : Ref sig .tc := ⟨.hbm, 391, rfl⟩
abbrev main_call13_v15 : Ref sig .tc := ⟨.hbm, 392, rfl⟩
abbrev main_v142 : Ref sig .tc := ⟨.hbm, 393, rfl⟩
abbrev main_call14_c : Ref sig .tc := ⟨.hbm, 394, rfl⟩
abbrev main_call14_v0 : Ref sig .tc := ⟨.hbm, 395, rfl⟩
abbrev main_call14_v1 : Ref sig .tc := ⟨.hbm, 396, rfl⟩
abbrev main_call14_c_0 : Ref sig .tc := ⟨.hbm, 397, rfl⟩
abbrev main_call14_v2 : Ref sig .tc := ⟨.hbm, 398, rfl⟩
abbrev main_call14_v3 : Ref sig .tc := ⟨.hbm, 399, rfl⟩
abbrev main_call14_v4 : Ref sig .tc := ⟨.hbm, 400, rfl⟩
abbrev main_call14_v5 : Ref sig .tc := ⟨.hbm, 401, rfl⟩
abbrev main_call14_c_1 : Ref sig .tc := ⟨.hbm, 402, rfl⟩
abbrev main_call14_c_2 : Ref sig .tc := ⟨.hbm, 403, rfl⟩
abbrev main_call14_v6 : Ref sig .tc := ⟨.hbm, 404, rfl⟩
abbrev main_call14_v7 : Ref sig .tc := ⟨.hbm, 405, rfl⟩
abbrev main_call14_v8 : Ref sig .tc := ⟨.hbm, 406, rfl⟩
abbrev main_call14_v9 : Ref sig .tc := ⟨.hbm, 407, rfl⟩
abbrev main_call14_v10 : Ref sig .tc := ⟨.hbm, 408, rfl⟩
abbrev main_call14_v11 : Ref sig .tc := ⟨.hbm, 409, rfl⟩
abbrev main_call14_c_3 : Ref sig .tc := ⟨.hbm, 410, rfl⟩
abbrev main_call14_v12 : Ref sig .tc := ⟨.hbm, 411, rfl⟩
abbrev main_call14_v13 : Ref sig .tc := ⟨.hbm, 412, rfl⟩
abbrev main_call14_v14 : Ref sig .tc := ⟨.hbm, 413, rfl⟩
abbrev main_call14_cst : Ref sig .tc := ⟨.hbm, 414, rfl⟩
abbrev main_call14_v15 : Ref sig .tc := ⟨.hbm, 415, rfl⟩
abbrev main_v143 : Ref sig .tc := ⟨.hbm, 416, rfl⟩
abbrev main_call15_c : Ref sig .tc := ⟨.hbm, 417, rfl⟩
abbrev main_call15_v0 : Ref sig .tc := ⟨.hbm, 418, rfl⟩
abbrev main_call15_v1 : Ref sig .tc := ⟨.hbm, 419, rfl⟩
abbrev main_call15_c_0 : Ref sig .tc := ⟨.hbm, 420, rfl⟩
abbrev main_call15_v2 : Ref sig .tc := ⟨.hbm, 421, rfl⟩
abbrev main_call15_v3 : Ref sig .tc := ⟨.hbm, 422, rfl⟩
abbrev main_call15_v4 : Ref sig .tc := ⟨.hbm, 423, rfl⟩
abbrev main_call15_v5 : Ref sig .tc := ⟨.hbm, 424, rfl⟩
abbrev main_call15_c_1 : Ref sig .tc := ⟨.hbm, 425, rfl⟩
abbrev main_call15_c_2 : Ref sig .tc := ⟨.hbm, 426, rfl⟩
abbrev main_call15_v6 : Ref sig .tc := ⟨.hbm, 427, rfl⟩
abbrev main_call15_v7 : Ref sig .tc := ⟨.hbm, 428, rfl⟩
abbrev main_call15_v8 : Ref sig .tc := ⟨.hbm, 429, rfl⟩
abbrev main_call15_v9 : Ref sig .tc := ⟨.hbm, 430, rfl⟩
abbrev main_call15_v10 : Ref sig .tc := ⟨.hbm, 431, rfl⟩
abbrev main_call15_v11 : Ref sig .tc := ⟨.hbm, 432, rfl⟩
abbrev main_call15_c_3 : Ref sig .tc := ⟨.hbm, 433, rfl⟩
abbrev main_call15_v12 : Ref sig .tc := ⟨.hbm, 434, rfl⟩
abbrev main_call15_v13 : Ref sig .tc := ⟨.hbm, 435, rfl⟩
abbrev main_call15_v14 : Ref sig .tc := ⟨.hbm, 436, rfl⟩
abbrev main_call15_cst : Ref sig .tc := ⟨.hbm, 437, rfl⟩
abbrev main_call15_v15 : Ref sig .tc := ⟨.hbm, 438, rfl⟩
abbrev main_v144 : Ref sig .tc := ⟨.hbm, 439, rfl⟩
abbrev main_call16_c : Ref sig .tc := ⟨.hbm, 440, rfl⟩
abbrev main_call16_v0 : Ref sig .tc := ⟨.hbm, 441, rfl⟩
abbrev main_call16_v1 : Ref sig .tc := ⟨.hbm, 442, rfl⟩
abbrev main_call16_c_0 : Ref sig .tc := ⟨.hbm, 443, rfl⟩
abbrev main_call16_v2 : Ref sig .tc := ⟨.hbm, 444, rfl⟩
abbrev main_call16_v3 : Ref sig .tc := ⟨.hbm, 445, rfl⟩
abbrev main_call16_v4 : Ref sig .tc := ⟨.hbm, 446, rfl⟩
abbrev main_call16_v5 : Ref sig .tc := ⟨.hbm, 447, rfl⟩
abbrev main_call16_c_1 : Ref sig .tc := ⟨.hbm, 448, rfl⟩
abbrev main_call16_c_2 : Ref sig .tc := ⟨.hbm, 449, rfl⟩
abbrev main_call16_v6 : Ref sig .tc := ⟨.hbm, 450, rfl⟩
abbrev main_call16_v7 : Ref sig .tc := ⟨.hbm, 451, rfl⟩
abbrev main_call16_v8 : Ref sig .tc := ⟨.hbm, 452, rfl⟩
abbrev main_call16_v9 : Ref sig .tc := ⟨.hbm, 453, rfl⟩
abbrev main_call16_v10 : Ref sig .tc := ⟨.hbm, 454, rfl⟩
abbrev main_call16_v11 : Ref sig .tc := ⟨.hbm, 455, rfl⟩
abbrev main_call16_c_3 : Ref sig .tc := ⟨.hbm, 456, rfl⟩
abbrev main_call16_v12 : Ref sig .tc := ⟨.hbm, 457, rfl⟩
abbrev main_call16_v13 : Ref sig .tc := ⟨.hbm, 458, rfl⟩
abbrev main_call16_v14 : Ref sig .tc := ⟨.hbm, 459, rfl⟩
abbrev main_call16_cst : Ref sig .tc := ⟨.hbm, 460, rfl⟩
abbrev main_call16_v15 : Ref sig .tc := ⟨.hbm, 461, rfl⟩
abbrev main_v145 : Ref sig .tc := ⟨.hbm, 462, rfl⟩
abbrev main_v146 : Ref sig .tc := ⟨.hbm, 463, rfl⟩
abbrev main_v147 : Ref sig .tc := ⟨.hbm, 464, rfl⟩
abbrev main_v148 : Ref sig .tc := ⟨.hbm, 465, rfl⟩
abbrev main_v149 : Ref sig .tc := ⟨.hbm, 466, rfl⟩
abbrev main_v150 : Ref sig .tc := ⟨.hbm, 467, rfl⟩
abbrev main_v151 : Ref sig .tc := ⟨.hbm, 468, rfl⟩
abbrev main_v152 : Ref sig .tc := ⟨.hbm, 469, rfl⟩
abbrev main_v153 : Ref sig .tc := ⟨.hbm, 470, rfl⟩
abbrev main_v154 : Ref sig .tc := ⟨.hbm, 471, rfl⟩
abbrev main_v155 : Ref sig .tc := ⟨.hbm, 472, rfl⟩
abbrev main_cst_46 : Ref sig .tc := ⟨.hbm, 473, rfl⟩
abbrev main_v156 : Ref sig .tc := ⟨.hbm, 474, rfl⟩
abbrev main_v157 : Ref sig .tc := ⟨.hbm, 475, rfl⟩
abbrev main_v158 : Ref sig .tc := ⟨.hbm, 476, rfl⟩
abbrev main_v159 : Ref sig .tc := ⟨.hbm, 477, rfl⟩
abbrev main_cst_47 : Ref sig .tc := ⟨.hbm, 478, rfl⟩
abbrev main_v160 : Ref sig .tc := ⟨.hbm, 479, rfl⟩
abbrev main_v161 : Ref sig .tc := ⟨.hbm, 480, rfl⟩
abbrev main_v162 : Ref sig .tc := ⟨.hbm, 481, rfl⟩
abbrev main_v163 : Ref sig .tc := ⟨.hbm, 482, rfl⟩
abbrev main_v164 : Ref sig .tc := ⟨.hbm, 483, rfl⟩
abbrev main_cst_48 : Ref sig .tc := ⟨.hbm, 484, rfl⟩
abbrev main_v165 : Ref sig .tc := ⟨.hbm, 485, rfl⟩
abbrev main_v166 : Ref sig .tc := ⟨.hbm, 486, rfl⟩
abbrev main_v167 : Ref sig .tc := ⟨.hbm, 487, rfl⟩
abbrev main_cst_49 : Ref sig .tc := ⟨.hbm, 488, rfl⟩
abbrev main_v168 : Ref sig .tc := ⟨.hbm, 489, rfl⟩
abbrev main_v169 : Ref sig .tc := ⟨.hbm, 490, rfl⟩
abbrev main_v170 : Ref sig .tc := ⟨.hbm, 491, rfl⟩
abbrev main_v171 : Ref sig .tc := ⟨.hbm, 492, rfl⟩
abbrev main_cst_50 : Ref sig .tc := ⟨.hbm, 493, rfl⟩
abbrev main_v172 : Ref sig .tc := ⟨.hbm, 494, rfl⟩
abbrev main_v173 : Ref sig .tc := ⟨.hbm, 495, rfl⟩
abbrev main_v174 : Ref sig .tc := ⟨.hbm, 496, rfl⟩
abbrev main_v175 : Ref sig .tc := ⟨.hbm, 497, rfl⟩
abbrev main_v176 : Ref sig .tc := ⟨.hbm, 498, rfl⟩
abbrev main_cst_51 : Ref sig .tc := ⟨.hbm, 499, rfl⟩
abbrev main_v177 : Ref sig .tc := ⟨.hbm, 500, rfl⟩
abbrev main_v178 : Ref sig .tc := ⟨.hbm, 501, rfl⟩
abbrev main_v179 : Ref sig .tc := ⟨.hbm, 502, rfl⟩
abbrev main_cst_52 : Ref sig .tc := ⟨.hbm, 503, rfl⟩
abbrev main_v180 : Ref sig .tc := ⟨.hbm, 504, rfl⟩
abbrev main_v181 : Ref sig .tc := ⟨.hbm, 505, rfl⟩
abbrev main_v182 : Ref sig .tc := ⟨.hbm, 506, rfl⟩
abbrev main_v183 : Ref sig .tc := ⟨.hbm, 507, rfl⟩
abbrev main_cst_53 : Ref sig .tc := ⟨.hbm, 508, rfl⟩
abbrev main_v184 : Ref sig .tc := ⟨.hbm, 509, rfl⟩
abbrev main_v185 : Ref sig .tc := ⟨.hbm, 510, rfl⟩
abbrev main_cst_54 : Ref sig .tc := ⟨.hbm, 511, rfl⟩
abbrev main_v186 : Ref sig .tc := ⟨.hbm, 512, rfl⟩
abbrev main_v187 : Ref sig .tc := ⟨.hbm, 513, rfl⟩
abbrev main_v188 : Ref sig .tc := ⟨.hbm, 514, rfl⟩
abbrev main_v189 : Ref sig .tc := ⟨.hbm, 515, rfl⟩
abbrev main_v190 : Ref sig .tc := ⟨.hbm, 516, rfl⟩
abbrev main_cst_55 : Ref sig .tc := ⟨.hbm, 517, rfl⟩
abbrev main_v191 : Ref sig .tc := ⟨.hbm, 518, rfl⟩
abbrev main_v192 : Ref sig .tc := ⟨.hbm, 519, rfl⟩
abbrev main_cst_56 : Ref sig .tc := ⟨.hbm, 520, rfl⟩
abbrev main_v193 : Ref sig .tc := ⟨.hbm, 521, rfl⟩
abbrev main_v194 : Ref sig .tc := ⟨.hbm, 522, rfl⟩
abbrev main_v195 : Ref sig .tc := ⟨.hbm, 523, rfl⟩
abbrev main_cst_57 : Ref sig .tc := ⟨.hbm, 524, rfl⟩
abbrev main_v196 : Ref sig .tc := ⟨.hbm, 525, rfl⟩
abbrev main_v197 : Ref sig .tc := ⟨.hbm, 526, rfl⟩
abbrev main_v198 : Ref sig .tc := ⟨.hbm, 527, rfl⟩
abbrev main_v199 : Ref sig .tc := ⟨.hbm, 528, rfl⟩
abbrev main_v200 : Ref sig .tc := ⟨.hbm, 529, rfl⟩
abbrev main_v201 : Ref sig .tc := ⟨.hbm, 530, rfl⟩
abbrev main_v202 : Ref sig .tc := ⟨.hbm, 531, rfl⟩
abbrev main_v203 : Ref sig .tc := ⟨.hbm, 532, rfl⟩
abbrev main_v204 : Ref sig .tc := ⟨.hbm, 533, rfl⟩
abbrev main_v205 : Ref sig .tc := ⟨.hbm, 534, rfl⟩
abbrev main_v206 : Ref sig .tc := ⟨.hbm, 535, rfl⟩
abbrev main_v207 : Ref sig .tc := ⟨.hbm, 536, rfl⟩
abbrev main_v208 : Ref sig .tc := ⟨.hbm, 537, rfl⟩
abbrev main_v209 : Ref sig .tc := ⟨.hbm, 538, rfl⟩
abbrev main_v210 : Ref sig .tc := ⟨.hbm, 539, rfl⟩
abbrev main_v211 : Ref sig .tc := ⟨.hbm, 540, rfl⟩
abbrev main_v212 : Ref sig .tc := ⟨.hbm, 541, rfl⟩
abbrev main_v213 : Ref sig .tc := ⟨.hbm, 542, rfl⟩
abbrev main_v214 : Ref sig .tc := ⟨.hbm, 543, rfl⟩
abbrev main_v215 : Ref sig .tc := ⟨.hbm, 544, rfl⟩
abbrev main_v216 : Ref sig .tc := ⟨.hbm, 545, rfl⟩
abbrev main_v217 : Ref sig .tc := ⟨.hbm, 546, rfl⟩
abbrev main_v218 : Ref sig .tc := ⟨.hbm, 547, rfl⟩
abbrev main_v219 : Ref sig .tc := ⟨.hbm, 548, rfl⟩
abbrev main_v220 : Ref sig .tc := ⟨.hbm, 549, rfl⟩
abbrev main_v221 : Ref sig .tc := ⟨.hbm, 550, rfl⟩
abbrev main_v222 : Ref sig .tc := ⟨.hbm, 551, rfl⟩
abbrev main_v223 : Ref sig .tc := ⟨.hbm, 552, rfl⟩

abbrev nD : Nat := 1
abbrev τ : Topo := Topo.v7x

variable {F : FTy → Type} [FloatOps F]
-- ==== Proof.Range.lean ====
/- WHAT THE PRECONDITION SAYS. The side conditions of the printed predicate, and its meaning over the extended reals: every
   element of the three arguments is a real number within its bound. -/
module

public import proofs.«01_k».proof.Pre_inputs_in_range
public import Idealize.ShloMosaic.Lib.ReduceAll
public import Idealize.ShloMosaic.Lib.Affine
public import Idealize.ShloMosaic.Lib.Claim
public import Idealize.ShloMosaic.PureOps.Ideal

@[expose] public section

noncomputable section

namespace Cert.Proof.Range

open Cert.Pre_inputs_in_range Idealize.ShloMosaic

theorem reduces5 : S32x32x64x64x3.ReducesTo [0, 1, 2, 3, 4] S_ := by decide
theorem reduces2 : S3x3.ReducesTo [0, 1] S_ := by decide
theorem reduces1 : S3.ReducesTo [0] S_ := by decide
theorem scalar_size : 0 < S_.numel := by decide

/-- The shape relations the predicate's operations take. -/
theorem facts : Cert.Pre_inputs_in_range.Facts where
  bcast_S_S32x32x64x64x3 := by decide
  reducesTo_S32x32x64x64x3_S_d0_1_2_3_4 := reduces5
  h_S_ := scalar_size
  bcast_S_S3x3 := by decide
  reducesTo_S3x3_S_d0_1 := reduces2
  bcast_S_S3 := by decide
  reducesTo_S3_S_d0 := reduces1

theorem bits_65536 : Ideal.ofBits .f32 0x47800000#32 = ((65536 : ℝ) : EReal) := by
  simp [Ideal.ofBits, Ideal.ieee, -EReal.coe_mul]; norm_num
theorem bits_256 : Ideal.ofBits .f32 0x43800000#32 = ((256 : ℝ) : EReal) := by
  simp [Ideal.ofBits, Ideal.ieee, -EReal.coe_mul]; norm_num

/-- An extended real whose magnitude a real number bounds is a real number so bounded. -/
theorem real_of_le {x : EReal} {b : ℝ} (h : max x (-x) ≤ (b : EReal)) : ∃ y : ℝ, x = (y : EReal) ∧ |y| ≤ b := by
  obtain ⟨h1, h2⟩ := max_le_iff.1 h
  induction x using EReal.rec with
  | bot => exact absurd h2 (by simp)
  | top => exact absurd h1 (by simp)
  | coe y =>
    refine ⟨y, rfl, abs_le.2 ⟨?_, EReal.coe_le_coe_iff.1 h1⟩⟩
    have : ((-y : ℝ) : EReal) ≤ (b : EReal) := by rw [EReal.coe_neg]; exact h2
    have := EReal.coe_le_coe_iff.1 this
    linarith

/-- A comparison "at most" that is one says so. -/
theorem le_of_cmp {x y : EReal} (h : Ideal.cmp .ole x y = 1#1) : x ≤ y := by
  unfold Ideal.cmp at h
  by_contra n
  simp [n] at h

instance : Subsingleton S_.Idx := ⟨fun _ _ => funext fun d => d.elim0⟩

/-- One conjunct of the predicate: an array whose every magnitude compares at most a bound. -/
theorem bounded {s : Shape} {axes : List (Fin s.rank)} (x : FVec Ideal s .f32) (hb : S_.BroadcastsInDim s (![] : Fin 0 → Fin s.rank))
    (hr : s.ReducesTo axes S_) (hu : 0 < S_.numel) {w : BitVec 32} {b : ℝ} (hw : Ideal.ofBits .f32 w = (b : EReal)) (j : S_.Idx)
    (h : Host.reduce IntOp.andi (cmpf .ole (Host.absf x) (broadcastInDim s ![] hb (constant S_ .f32 w))) (constantI S_ 1 1#1) hr hu j = 1#1)
    (i : s.Idx) : ∃ y : ℝ, x i = (y : EReal) ∧ |y| ≤ b := by
  have e : Ideal.cmp .ole (max (x i) (-(x i))) (Ideal.ofBits .f32 w) = 1#1 := Host.reduce_andi_all _ _ hr hu j h i
  rw [hw] at e
  exact real_of_le (le_of_cmp e)

/-- The predicate holds only of arguments whose elements are real numbers within the bounds. -/
theorem decode [Cert.Pre_inputs_in_range.Facts] (x0 : FVec Ideal S32x32x64x64x3 .f32) (x1 : FVec Ideal S3x3 .f32) (x2 : FVec Ideal S3 .f32)
    (h : fn (F := Ideal) x0 x1 x2 = fun _ => 1#1) :
    (∀ i, ∃ y : ℝ, x0 i = (y : EReal) ∧ |y| ≤ 65536) ∧ (∀ i, ∃ y : ℝ, x1 i = (y : EReal) ∧ |y| ≤ 256)
      ∧ (∀ i, ∃ y : ℝ, x2 i = (y : EReal) ∧ |y| ≤ 65536) := by
  have e := congrFun h (Shape.Idx.first scalar_size)
  obtain ⟨e01, e2⟩ := IntOp.andi_eq_one.1 e
  obtain ⟨e0, e1⟩ := IntOp.andi_eq_one.1 e01
  exact ⟨bounded x0 Facts.bcast_S_S32x32x64x64x3 reduces5 scalar_size bits_65536 (Shape.Idx.first scalar_size) e0,
    bounded x1 Facts.bcast_S_S3x3 reduces2 scalar_size bits_256 (Shape.Idx.first scalar_size) e1,
    bounded x2 Facts.bcast_S_S3 reduces1 scalar_size bits_65536 (Shape.Idx.first scalar_size) e2⟩

end Cert.Proof.Range

end
-- ==== Proof.Pair.lean ====
/- THE PAIR COMPUTATION. The kernel's body treats the 32 rows of its block two at a time: two rows of 64 lanes are put side by
   side in 128 lanes, and the same computation runs on each of the 16 pairs. Here that computation is written once, as a
   function of the two rows, the four planes of constants, the nine words of the matrix and the four words of the pair's
   affine map, at any float values; and the list of stores the body makes, as 16 groups of six. -/
module

public import proofs.«01_k».proof.Proof.Gen.KernelIdeal.Frame

@[expose] public section

noncomputable section

namespace Cert.Proof.Pair

open Cert.KernelIdeal Cert.KernelIdeal.Gen Idealize.ShloMosaic Idealize.ShloMosaic.TcCoe Idealize.SL.Sem

variable {F : FTy → Type} [FloatOps F]

/-- A vector of one word, named by its bits, at every place. -/
def word (b : BitVec 32) : FVec F S64x128 .f32 := broadcast S64x128 (Scalar.ofBits (F := F) .f32 b)

/-- Two rows side by side along the lanes, rounded to the narrow format and back. -/
def rows (A B : Vec F S1x1x3x64x64 .f32) : FVec F S3x64x128 .f32 :=
  extf .f32 (truncf .bf16 (concatenate S3x64x128 2
    [⟨S3x64x64, shapeCast S3x64x64 A shapeCasts_S1x1x3x64x64_S3x64x64⟩,
     ⟨S3x64x64, shapeCast S3x64x64 B shapeCasts_S1x1x3x64x64_S3x64x64⟩] concatenates_S3x64x64_S3x64x64_S3x64x128_d2)
    bitsLt_bf16_f32) bitsLt_bf16_f32

/-- The three channels of the two rows. -/
def chan0 (A B : Vec F S1x1x3x64x64 .f32) : FVec F S64x128 .f32 :=
  shapeCast S64x128 (extractStridedSlice S1x64x128 ![0, 0, 0] (rows A B) slices_S3x64x128_o0_0_0_S1x64x128) shapeCasts_S1x64x128_S64x128
def chan1 (A B : Vec F S1x1x3x64x64 .f32) : FVec F S64x128 .f32 :=
  shapeCast S64x128 (extractStridedSlice S1x64x128 ![1, 0, 0] (rows A B) slices_S3x64x128_o1_0_0_S1x64x128) shapeCasts_S1x64x128_S64x128
def chan2 (A B : Vec F S1x1x3x64x64 .f32) : FVec F S64x128 .f32 :=
  shapeCast S64x128 (extractStridedSlice S1x64x128 ![2, 0, 0] (rows A B) slices_S3x64x128_o2_0_0_S1x64x128) shapeCasts_S1x64x128_S64x128

/-- One column of the matrix applied to the channels. -/
def dot3 (X0 X1 X2 : FVec F S64x128 .f32) (a b c : F .f32) : FVec F S64x128 .f32 :=
  addf (addf (mulf X0 (broadcast S64x128 a)) (mulf X1 (broadcast S64x128 b))) (mulf X2 (broadcast S64x128 c))

/-- The left lanes take the first word, the right lanes the second. -/
def lanes (a b : F .f32) : FVec F S64x128 .f32 := select k0_pay8 (broadcast S64x128 a) (broadcast S64x128 b)

/-- A coordinate: the affine map of the moved point. -/
def coord (t g h : FVec F S64x128 .f32) : FVec F S64x128 .f32 := addf (mulf t g) h

/-- The lower and the upper neighbour of a coordinate, clipped to `0 … hi`. -/
def lower (hi : BitVec 32) (p : FVec F S64x128 .f32) : FVec F S64x128 .f32 :=
  minimumf (word hi) (maximumf (word 0x00000000#32) (floor p))
def upper (hi : BitVec 32) (p : FVec F S64x128 .f32) : FVec F S64x128 .f32 :=
  minimumf (word hi) (maximumf (word 0x00000000#32) (addf (floor p) (word 0x3F800000#32)))

/-- The squared distance to a centre, and what the ball leaves of 121 beside it. -/
def sqd (c : BitVec 32) (p : FVec F S64x128 .f32) : FVec F S64x128 .f32 := mulf (subf p (word c)) (subf p (word c))
def rest (c : BitVec 32) (p : FVec F S64x128 .f32) : FVec F S64x128 .f32 := subf (word 0x42F20000#32) (sqd c p)

/-- One minus a weight. -/
def oneMinus (d : FVec F S64x128 .f32) : FVec F S64x128 .f32 := subf (word 0x3F800000#32) d

/-- One edge of the cell: its weight times the weights of its two ends that lie in the ball. -/
def edge (u p dz ez r0 r1 : FVec F S64x128 .f32) : FVec F S64x128 .f32 :=
  mulf p (addf (select (cmpf .ole r0 u) dz (word 0x00000000#32)) (select (cmpf .ole r1 u) ez (word 0x00000000#32)))

/-- The interpolated value, from the three coordinates. -/
def interp (xf yf zf : FVec F S64x128 .f32) : FVec F S64x128 .f32 :=
  have dx := subf (upper 0x427C0000#32 xf) xf
  have dy := subf (upper 0x41F80000#32 yf) yf
  have dz := subf (upper 0x427C0000#32 zf) zf
  have u0 := rest 0x41000000#32 (lower 0x41F80000#32 yf)
  have u1 := rest 0x41000000#32 (upper 0x41F80000#32 yf)
  have s0 := sqd 0x41200000#32 (lower 0x427C0000#32 xf)
  have s1 := sqd 0x41200000#32 (upper 0x427C0000#32 xf)
  have r0 := sqd 0x41200000#32 (lower 0x427C0000#32 zf)
  have r1 := sqd 0x41200000#32 (upper 0x427C0000#32 zf)
  addf (addf (addf
    (edge (subf u0 s0) (mulf dy dx) dz (oneMinus dz) r0 r1)
    (edge (subf u0 s1) (mulf dy (oneMinus dx)) dz (oneMinus dz) r0 r1))
    (edge (subf u1 s0) (mulf (oneMinus dy) dx) dz (oneMinus dz) r0 r1))
    (edge (subf u1 s1) (mulf (oneMinus dy) (oneMinus dx)) dz (oneMinus dz) r0 r1)

/-- The whole computation of a pair of rows: `A B` the rows, `gx hx gz hz` the planes of constants, `w i o` the matrix, and
    `sa sb` (`ca cb`) the slope (offset) of the middle coordinate in the left and the right row. -/
def pair (A B : Vec F S1x1x3x64x64 .f32) (gx hx gz hz : Vec F S1x64x128 .f32)
    (w00 w10 w20 w01 w11 w21 w02 w12 w22 sa sb ca cb : F .f32) : FVec F S64x128 .f32 :=
  interp
    (coord (dot3 (chan0 A B) (chan1 A B) (chan2 A B) w00 w10 w20)
      (shapeCast S64x128 gx shapeCasts_S1x64x128_S64x128) (shapeCast S64x128 hx shapeCasts_S1x64x128_S64x128))
    (coord (dot3 (chan0 A B) (chan1 A B) (chan2 A B) w01 w11 w21) (lanes sa sb) (lanes ca cb))
    (coord (dot3 (chan0 A B) (chan1 A B) (chan2 A B) w02 w12 w22)
      (shapeCast S64x128 gz shapeCasts_S1x64x128_S64x128) (shapeCast S64x128 hz shapeCasts_S1x64x128_S64x128))

/-- The left and the right row of a pair's result, as the store of one channel takes it. -/
def left (p : FVec F S64x128 .f32) : FVec F S1x1x1x64x64 .f32 :=
  shapeCast S1x1x1x64x64 (extractStridedSlice S64x64 ![0, 0] p slices_S64x128_o0_0_S64x64) shapeCasts_S64x64_S1x1x1x64x64
def right (p : FVec F S64x128 .f32) : FVec F S1x1x1x64x64 .f32 :=
  shapeCast S1x1x1x64x64 (extractStridedSlice S64x64 ![0, 64] p slices_S64x128_o0_64_S64x64) shapeCasts_S64x64_S1x1x1x64x64

/-- A row of the block, and one channel of it, lie in the block. -/
theorem inb_row (r : ℕ) (h : r < 32) :
    ∀ a, (![0, r, 0, 0, 0] : Fin 5 → ℕ) a + S1x1x3x64x64.size a ≤ S1x32x3x64x64.size a := by
  intro a
  match a with
  | ⟨0, _⟩ => exact Nat.le_refl 1
  | ⟨1, _⟩ => show r + 1 ≤ 32; omega
  | ⟨2, _⟩ => exact Nat.le_refl 3
  | ⟨3, _⟩ => exact Nat.le_refl 64
  | ⟨4, _⟩ => exact Nat.le_refl 64

theorem inb_out (r ch : ℕ) (h : r < 32) (hc : ch < 3) :
    ∀ a, (![0, r, ch, 0, 0] : Fin 5 → ℕ) a + S1x1x1x64x64.size a ≤ S1x32x3x64x64.size a := by
  intro a
  match a with
  | ⟨0, _⟩ => exact Nat.le_refl 1
  | ⟨1, _⟩ => show r + 1 ≤ 32; omega
  | ⟨2, _⟩ => show ch + 1 ≤ 3; omega
  | ⟨3, _⟩ => exact Nat.le_refl 64
  | ⟨4, _⟩ => exact Nat.le_refl 64

/-- The store of channel `ch` of row `r`. -/
def outRect (r ch : ℕ) (h : r < 32) (hc : ch < 3) : Rect S1x32x3x64x64 :=
  Rect.unit ![0, r, ch, 0, 0] S1x1x1x64x64.size (inb_out r ch h hc)

section Body

variable (i : grid0.Coords) (arg2 : Memref sig .tc .vmem S1x32x3x64x64 .f32) (harg2 : arg2.IsWhole)
  (arg3 : Memref sig .tc .vmem S4x64x128 .f32) (harg3 : arg3.IsWhole) (arg4 : Memref sig .tc .smem S2x32 .f32) (harg4 : arg4.IsWhole)
  (arg5 : Memref sig .tc .smem S3x3 .f32) (harg5 : arg5.IsWhole)
  (x0 : Vec F S1x32x3x64x64 .f32) (x1 : Vec F S4x64x128 .f32) (x2 : Vec F S2x32 .f32) (x3 : Vec F S3x3 .f32)

/-- The loads of the body: a row of the block, a plane of constants, and single words. -/
def ldRow (r : ℕ) (h : r < 32) : Vec F S1x1x3x64x64 .f32 :=
  View.readAt (Elt F) arg2.view (Rect.unit (s := S1x32x3x64x64) ![0, r, 0, 0, 0] S1x1x3x64x64.size (inb_row r h)).toLoadRect (harg2.unread x0)
def ldPlane (o : Fin 3 → ℕ) (inb : ∀ a, o a + S1x64x128.size a ≤ S4x64x128.size a) : Vec F S1x64x128 .f32 :=
  View.readAt (Elt F) arg3.view (Rect.unit (s := S4x64x128) o S1x64x128.size inb).toLoadRect (harg3.unread x1)
def ldMap (o : Fin 2 → ℕ) (inb : ∀ a, o a + S1x1.size a ≤ S2x32.size a) : F .f32 :=
  View.readAt (Elt F) arg4.view (Rect.unit (s := S2x32) o S1x1.size inb).toLoadRect (harg4.unread x2) (Shape.Idx.first (numel1_S1x1.symm ▸ Nat.one_pos))
def ldMat (o : Fin 2 → ℕ) (inb : ∀ a, o a + S1x1.size a ≤ S3x3.size a) : F .f32 :=
  View.readAt (Elt F) arg5.view (Rect.unit (s := S3x3) o S1x1.size inb).toLoadRect (harg5.unread x3) (Shape.Idx.first (numel1_S1x1.symm ▸ Nat.one_pos))

/-- Pair `k` of the body, on what it loads. -/
def pairAt (k : Fin 16) : FVec F S64x128 .f32 :=
  pair (ldRow arg2 harg2 x0 (2 * k.val) (by omega)) (ldRow arg2 harg2 x0 (2 * k.val + 1) (by omega))
    (ldPlane arg3 harg3 x1 ![0, 0, 0] inb_S4x64x128_S1x64x128_0_0_0) (ldPlane arg3 harg3 x1 ![1, 0, 0] inb_S4x64x128_S1x64x128_1_0_0)
    (ldPlane arg3 harg3 x1 ![2, 0, 0] inb_S4x64x128_S1x64x128_2_0_0) (ldPlane arg3 harg3 x1 ![3, 0, 0] inb_S4x64x128_S1x64x128_3_0_0)
    (ldMat arg5 harg5 x3 ![0, 0] inb_S3x3_S1x1_0_0) (ldMat arg5 harg5 x3 ![1, 0] inb_S3x3_S1x1_1_0) (ldMat arg5 harg5 x3 ![2, 0] inb_S3x3_S1x1_2_0)
    (ldMat arg5 harg5 x3 ![0, 1] inb_S3x3_S1x1_0_1) (ldMat arg5 harg5 x3 ![1, 1] inb_S3x3_S1x1_1_1) (ldMat arg5 harg5 x3 ![2, 1] inb_S3x3_S1x1_2_1)
    (ldMat arg5 harg5 x3 ![0, 2] inb_S3x3_S1x1_0_2) (ldMat arg5 harg5 x3 ![1, 2] inb_S3x3_S1x1_1_2) (ldMat arg5 harg5 x3 ![2, 2] inb_S3x3_S1x1_2_2)
    (ldMap arg4 harg4 x2 (k0_off1 i (BitVec.ofNat 32 (2 * k.val))) (k0_off1_inb i k))
    (ldMap arg4 harg4 x2 (k0_off2 i (BitVec.ofNat 32 (2 * k.val))) (k0_off2_inb i k))
    (ldMap arg4 harg4 x2 (k0_off3 i (BitVec.ofNat 32 (2 * k.val))) (k0_off3_inb i k))
    (ldMap arg4 harg4 x2 (k0_off4 i (BitVec.ofNat 32 (2 * k.val))) (k0_off4_inb i k))

/-- The six stores of pair `k`, last first: three channels of the right row, three of the left. -/
def stores (k : Fin 16) : List (View.Piece (Elt F) S1x32x3x64x64 .f32) :=
  [⟨outRect (2 * k.val + 1) 2 (by omega) (by omega), right (pairAt i arg2 harg2 arg3 harg3 arg4 harg4 arg5 harg5 x0 x1 x2 x3 k)⟩,
   ⟨outRect (2 * k.val + 1) 1 (by omega) (by omega), right (pairAt i arg2 harg2 arg3 harg3 arg4 harg4 arg5 harg5 x0 x1 x2 x3 k)⟩,
   ⟨outRect (2 * k.val + 1) 0 (by omega) (by omega), right (pairAt i arg2 harg2 arg3 harg3 arg4 harg4 arg5 harg5 x0 x1 x2 x3 k)⟩,
   ⟨outRect (2 * k.val) 2 (by omega) (by omega), left (pairAt i arg2 harg2 arg3 harg3 arg4 harg4 arg5 harg5 x0 x1 x2 x3 k)⟩,
   ⟨outRect (2 * k.val) 1 (by omega) (by omega), left (pairAt i arg2 harg2 arg3 harg3 arg4 harg4 arg5 harg5 x0 x1 x2 x3 k)⟩,
   ⟨outRect (2 * k.val) 0 (by omega) (by omega), left (pairAt i arg2 harg2 arg3 harg3 arg4 harg4 arg5 harg5 x0 x1 x2 x3 k)⟩]

end Body

end Cert.Proof.Pair

end
-- ==== Proof.Voxel.lean ====
/- ONE VOXEL. The interpolated value as one real function of the three coordinates (`vox`), and the pair computation's
   interpolation at a place where its three coordinates are real numbers. -/
module

public import proofs.«01_k».proof.Proof.Pair
public import Idealize.ShloMosaic.PureOps.Ideal.Laws

@[expose] public section

noncomputable section

namespace Cert.Proof.Voxel

open Cert.KernelIdeal Idealize.ShloMosaic Idealize.ShloMosaic.TcCoe Cert.Proof.Pair

/-- An integer clipped to `0 … h`. -/
def clipN (h : ℕ) (z : ℤ) : ℕ := (min (h : ℤ) (max 0 z)).toNat

theorem clipN_le (h : ℕ) (z : ℤ) : clipN h z ≤ h := by unfold clipN; omega

/-- The ball: the squared distance to (8, 10, 10) is at most 121. -/
def ball (y x z : ℕ) : ℝ := if ((y : ℝ) - 8) * ((y : ℝ) - 8) + ((x : ℝ) - 10) * ((x : ℝ) - 10) + ((z : ℝ) - 10) * ((z : ℝ) - 10) ≤ 121 then 1 else 0

/-- Trilinear interpolation in the ball at the point `(xf, yf, zf)`, its neighbours clipped to 64, 32 and 64 places. -/
def vox (xf yf zf : ℝ) : ℝ :=
  ((clipN 63 (⌊zf⌋ + 1) : ℝ) - zf) * ((clipN 63 (⌊xf⌋ + 1) : ℝ) - xf) * ((clipN 31 (⌊yf⌋ + 1) : ℝ) - yf)
      * ball (clipN 31 ⌊yf⌋) (clipN 63 ⌊xf⌋) (clipN 63 ⌊zf⌋)
    + ((clipN 63 (⌊zf⌋ + 1) : ℝ) - zf) * ((clipN 63 (⌊xf⌋ + 1) : ℝ) - xf) * (1 - ((clipN 31 (⌊yf⌋ + 1) : ℝ) - yf))
      * ball (clipN 31 (⌊yf⌋ + 1)) (clipN 63 ⌊xf⌋) (clipN 63 ⌊zf⌋)
    + ((clipN 63 (⌊zf⌋ + 1) : ℝ) - zf) * (1 - ((clipN 63 (⌊xf⌋ + 1) : ℝ) - xf)) * ((clipN 31 (⌊yf⌋ + 1) : ℝ) - yf)
      * ball (clipN 31 ⌊yf⌋) (clipN 63 (⌊xf⌋ + 1)) (clipN 63 ⌊zf⌋)
    + ((clipN 63 (⌊zf⌋ + 1) : ℝ) - zf) * (1 - ((clipN 63 (⌊xf⌋ + 1) : ℝ) - xf)) * (1 - ((clipN 31 (⌊yf⌋ + 1) : ℝ) - yf))
      * ball (clipN 31 (⌊yf⌋ + 1)) (clipN 63 (⌊xf⌋ + 1)) (clipN 63 ⌊zf⌋)
    + (1 - ((clipN 63 (⌊zf⌋ + 1) : ℝ) - zf)) * ((clipN 63 (⌊xf⌋ + 1) : ℝ) - xf) * ((clipN 31 (⌊yf⌋ + 1) : ℝ) - yf)
      * ball (clipN 31 ⌊yf⌋) (clipN 63 ⌊xf⌋) (clipN 63 (⌊zf⌋ + 1))
    + (1 - ((clipN 63 (⌊zf⌋ + 1) : ℝ) - zf)) * ((clipN 63 (⌊xf⌋ + 1) : ℝ) - xf) * (1 - ((clipN 31 (⌊yf⌋ + 1) : ℝ) - yf))
      * ball (clipN 31 (⌊yf⌋ + 1)) (clipN 63 ⌊xf⌋) (clipN 63 (⌊zf⌋ + 1))
    + (1 - ((clipN 63 (⌊zf⌋ + 1) : ℝ) - zf)) * (1 - ((clipN 63 (⌊xf⌋ + 1) : ℝ) - xf)) * ((clipN 31 (⌊yf⌋ + 1) : ℝ) - yf)
      * ball (clipN 31 ⌊yf⌋) (clipN 63 (⌊xf⌋ + 1)) (clipN 63 (⌊zf⌋ + 1))
    + (1 - ((clipN 63 (⌊zf⌋ + 1) : ℝ) - zf)) * (1 - ((clipN 63 (⌊xf⌋ + 1) : ℝ) - xf)) * (1 - ((clipN 31 (⌊yf⌋ + 1) : ℝ) - yf))
      * ball (clipN 31 (⌊yf⌋ + 1)) (clipN 63 (⌊xf⌋ + 1)) (clipN 63 (⌊zf⌋ + 1))

/-! The words of the two programs as real numbers. -/

theorem bits_one : Ideal.ofBits .f32 0x3F800000#32 = ((1 : ℝ) : EReal) := by
  simp [Ideal.ofBits, Ideal.ieee, -EReal.coe_mul, -EReal.coe_one]; norm_num
theorem bits_8 : Ideal.ofBits .f32 0x41000000#32 = ((8 : ℝ) : EReal) := by
  simp [Ideal.ofBits, Ideal.ieee, -EReal.coe_mul]; norm_num
theorem bits_10 : Ideal.ofBits .f32 0x41200000#32 = ((10 : ℝ) : EReal) := by
  simp [Ideal.ofBits, Ideal.ieee, -EReal.coe_mul]; norm_num
theorem bits_11 : Ideal.ofBits .f32 0x41300000#32 = ((11 : ℝ) : EReal) := by
  simp [Ideal.ofBits, Ideal.ieee, -EReal.coe_mul]; norm_num
theorem bits_121 : Ideal.ofBits .f32 0x42F20000#32 = ((121 : ℝ) : EReal) := by
  simp [Ideal.ofBits, Ideal.ieee, -EReal.coe_mul]; norm_num
theorem bits_63 : Ideal.ofBits .f32 0x427C0000#32 = (((63 : ℕ) : ℝ) : EReal) := by
  simp [Ideal.ofBits, Ideal.ieee, -EReal.coe_mul]; norm_num
theorem bits_31 : Ideal.ofBits .f32 0x41F80000#32 = (((31 : ℕ) : ℝ) : EReal) := by
  simp [Ideal.ofBits, Ideal.ieee, -EReal.coe_mul]; norm_num
theorem bits_16 : Ideal.ofBits .f32 0x41800000#32 = ((16 : ℝ) : EReal) := by
  simp [Ideal.ofBits, Ideal.ieee, -EReal.coe_mul]; norm_num
theorem bits_32 : Ideal.ofBits .f32 0x42000000#32 = ((32 : ℝ) : EReal) := by
  simp [Ideal.ofBits, Ideal.ieee, -EReal.coe_mul]; norm_num
theorem bits_64 : Ideal.ofBits .f32 0x42800000#32 = ((64 : ℝ) : EReal) := by
  simp [Ideal.ofBits, Ideal.ieee, -EReal.coe_mul]; norm_num
theorem bits_half : Ideal.ofBits .f32 0x3F000000#32 = ((1 / 2 : ℝ) : EReal) := by
  simp [Ideal.ofBits, Ideal.ieee, -EReal.coe_mul]; norm_num

/-- The floor of a real number, clipped by the minimum and maximum of real numbers, is the clipped integer. -/
theorem clip_coe (h : ℕ) (z : ℤ) : min ((h : ℝ) : EReal) (max 0 ((z : ℝ) : EReal)) = ((clipN h z : ℝ) : EReal) := by
  have e : ((clipN h z : ℕ) : ℤ) = min (h : ℤ) (max 0 z) := by unfold clipN; omega
  have e' : ((clipN h z : ℕ) : ℝ) = min (h : ℝ) (max 0 (z : ℝ)) := by exact_mod_cast congrArg (Int.cast : ℤ → ℝ) e
  rw [e', ← EReal.coe_zero, EReal.coe_strictMono.monotone.map_min, EReal.coe_strictMono.monotone.map_max]

/-- The choice by a comparison of real numbers. -/
theorem select_le (a b c d : ℝ) :
    Scalar.select (Ideal.cmp .ole (a : EReal) (b : EReal)) (c : EReal) (d : EReal) = ((if a ≤ b then c else d : ℝ) : EReal) := by
  unfold Scalar.select Ideal.cmp
  by_cases h : a ≤ b
  · simp [h]
  · simp [h]

section At

variable (j : S64x128.Idx)

/-- The vectors of the pair computation at a place where they are real. -/
theorem sub_at {u v : FVec Ideal S64x128 .f32} {a b : ℝ} (hu : u j = (a : EReal)) (hv : v j = (b : EReal)) :
    subf u v j = ((a - b : ℝ) : EReal) := by
  show u j - v j = _
  rw [hu, hv, EReal.coe_sub]
theorem mul_at {u v : FVec Ideal S64x128 .f32} {a b : ℝ} (hu : u j = (a : EReal)) (hv : v j = (b : EReal)) :
    mulf u v j = ((a * b : ℝ) : EReal) := by
  show u j * v j = _
  rw [hu, hv, EReal.coe_mul]
theorem add_at {u v : FVec Ideal S64x128 .f32} {a b : ℝ} (hu : u j = (a : EReal)) (hv : v j = (b : EReal)) :
    addf u v j = ((a + b : ℝ) : EReal) := by
  show u j + v j = _
  rw [hu, hv, EReal.coe_add]
theorem lower_at {hi : BitVec 32} {h : ℕ} (e : Ideal.ofBits .f32 hi = ((h : ℝ) : EReal)) {p : FVec Ideal S64x128 .f32} {a : ℝ}
    (hp : p j = (a : EReal)) : lower hi p j = ((clipN h ⌊a⌋ : ℝ) : EReal) := by
  show min (Ideal.ofBits .f32 hi) (max (Ideal.ofBits .f32 0x00000000#32) (Ideal.liftRound Int.floor (p j))) = _
  rw [e, hp, Ideal.ofBits_zero_f32, Ideal.liftRound_coe, clip_coe]
theorem upper_at {hi : BitVec 32} {h : ℕ} (e : Ideal.ofBits .f32 hi = ((h : ℝ) : EReal)) {p : FVec Ideal S64x128 .f32} {a : ℝ}
    (hp : p j = (a : EReal)) : upper hi p j = ((clipN h (⌊a⌋ + 1) : ℝ) : EReal) := by
  show min (Ideal.ofBits .f32 hi) (max (Ideal.ofBits .f32 0x00000000#32)
    (Ideal.liftRound Int.floor (p j) + Ideal.ofBits .f32 0x3F800000#32)) = _
  rw [e, hp, Ideal.ofBits_zero_f32, Ideal.liftRound_coe, bits_one, ← EReal.coe_add, ← clip_coe]
  push_cast; rfl
theorem oneMinus_at {d : FVec Ideal S64x128 .f32} {a : ℝ} (hd : d j = (a : EReal)) : oneMinus d j = ((1 - a : ℝ) : EReal) := by
  show Ideal.ofBits .f32 0x3F800000#32 - d j = _
  rw [hd, bits_one, EReal.coe_sub]
theorem sqd_at {c : BitVec 32} {r : ℝ} (e : Ideal.ofBits .f32 c = (r : EReal)) {p : FVec Ideal S64x128 .f32} {a : ℝ}
    (hp : p j = (a : EReal)) : sqd c p j = (((a - r) * (a - r) : ℝ) : EReal) := by
  show (p j - Ideal.ofBits .f32 c) * (p j - Ideal.ofBits .f32 c) = _
  rw [e, hp, ← EReal.coe_sub, ← EReal.coe_mul]
theorem rest_at {c : BitVec 32} {r : ℝ} (e : Ideal.ofBits .f32 c = (r : EReal)) {p : FVec Ideal S64x128 .f32} {a : ℝ}
    (hp : p j = (a : EReal)) : rest c p j = ((121 - (a - r) * (a - r) : ℝ) : EReal) := by
  show Ideal.ofBits .f32 0x42F20000#32 - sqd c p j = _
  rw [sqd_at j e hp, bits_121, EReal.coe_sub]
theorem edge_at {u p dz ez r0 r1 : FVec Ideal S64x128 .f32} {u' p' dz' ez' r0' r1' : ℝ} (hu : u j = (u' : EReal))
    (hp : p j = (p' : EReal)) (hd : dz j = (dz' : EReal)) (he : ez j = (ez' : EReal)) (h0 : r0 j = (r0' : EReal))
    (h1 : r1 j = (r1' : EReal)) : edge u p dz ez r0 r1 j
      = ((p' * ((if r0' ≤ u' then dz' else 0) + (if r1' ≤ u' then ez' else 0)) : ℝ) : EReal) := by
  show p j * (Scalar.select (Ideal.cmp .ole (r0 j) (u j)) (dz j) (Ideal.ofBits .f32 0x00000000#32)
    + Scalar.select (Ideal.cmp .ole (r1 j) (u j)) (ez j) (Ideal.ofBits .f32 0x00000000#32)) = _
  rw [hu, hp, hd, he, h0, h1, Ideal.ofBits_zero_f32, ← EReal.coe_zero, select_le, select_le, ← EReal.coe_add, ← EReal.coe_mul]

/-- The test of an edge's end is the ball's. -/
theorem pick_eq (y x z : ℕ) (d : ℝ) :
    (if ((z : ℝ) - 10) * ((z : ℝ) - 10) ≤ 121 - ((y : ℝ) - 8) * ((y : ℝ) - 8) - ((x : ℝ) - 10) * ((x : ℝ) - 10) then d else 0)
      = d * ball y x z := by
  unfold ball
  by_cases h : ((y : ℝ) - 8) * ((y : ℝ) - 8) + ((x : ℝ) - 10) * ((x : ℝ) - 10) + ((z : ℝ) - 10) * ((z : ℝ) - 10) ≤ 121
  · rw [if_pos h, if_pos (by linarith), mul_one]
  · rw [if_neg h, if_neg (by intro h'; exact h (by linarith)), mul_zero]

/-- The interpolation at a place with real coordinates is `vox` of them. -/
theorem interp_at {xf yf zf : FVec Ideal S64x128 .f32} {x y z : ℝ} (hx : xf j = (x : EReal)) (hy : yf j = (y : EReal))
    (hz : zf j = (z : EReal)) : interp xf yf zf j = ((vox x y z : ℝ) : EReal) := by
  have x0 := lower_at j bits_63 hx
  have x1 := upper_at j bits_63 hx
  have y0 := lower_at j bits_31 hy
  have y1 := upper_at j bits_31 hy
  have z0 := lower_at j bits_63 hz
  have z1 := upper_at j bits_63 hz
  have dx := sub_at j x1 hx
  have dy := sub_at j y1 hy
  have dz := sub_at j z1 hz
  have u0 := rest_at j bits_8 y0
  have u1 := rest_at j bits_8 y1
  have s0 := sqd_at j bits_10 x0
  have s1 := sqd_at j bits_10 x1
  have r0 := sqd_at j bits_10 z0
  have r1 := sqd_at j bits_10 z1
  have e00 := edge_at j (sub_at j u0 s0) (mul_at j dy dx) dz (oneMinus_at j dz) r0 r1
  have e01 := edge_at j (sub_at j u0 s1) (mul_at j dy (oneMinus_at j dx)) dz (oneMinus_at j dz) r0 r1
  have e10 := edge_at j (sub_at j u1 s0) (mul_at j (oneMinus_at j dy) dx) dz (oneMinus_at j dz) r0 r1
  have e11 := edge_at j (sub_at j u1 s1) (mul_at j (oneMinus_at j dy) (oneMinus_at j dx)) dz (oneMinus_at j dz) r0 r1
  refine (add_at j (add_at j (add_at j e00 e01) e10) e11).trans (congrArg (fun r : ℝ => (r : EReal)) ?_)
  simp only [pick_eq]
  unfold vox
  ring

end At

end Cert.Proof.Voxel

end
-- ==== Proof.Lin.lean ====
/- THE EQUALLY SPACED POINTS. Both programs build them by the same operations; here: each point is a real number between
   minus one and one. -/
module

public import proofs.«01_k».proof.Proof.Gen.ReferenceIdeal.Read
public import proofs.«01_k».proof.Proof.Voxel

@[expose] public section

noncomputable section

namespace Cert.Proof.Lin

open Cert.ReferenceIdeal Cert.ReferenceIdeal.Gen Cert.ReferenceIdeal.Read Idealize.ShloMosaic Idealize.ShloMosaic.TcCoe Idealize.SL.Sem

theorem bits_neg : Ideal.ofBits .f32 0xBF800000#32 = ((-1 : ℝ) : EReal) := by
  simp [Ideal.ofBits, Ideal.ieee, -EReal.coe_mul, -EReal.coe_one, -EReal.coe_neg]; norm_num

/-- A small natural as a signed word. -/
theorem toInt_small (k : ℕ) (hk : k < 2 ^ 31) : (BitVec.ofNat 32 k).toInt = (k : ℤ) := by
  rw [BitVec.toInt_eq_toNat_cond, BitVec.toNat_ofNat, Nat.mod_eq_of_lt (by omega), if_pos (by omega)]

/-- A quotient of reals. -/
theorem div_at {x y : EReal} {u v : ℝ} (hx : x = (u : EReal)) (hy : y = (v : EReal)) (hv : v ≠ 0) : Ideal.div x y = ((u / v : ℝ) : EReal) := by
  have h0 : ((v : ℝ) : EReal) ≠ 0 := by
    rw [← EReal.coe_zero]; exact fun h => hv (EReal.coe_injective h)
  rw [hx, hy, Ideal.div, if_neg h0, ← EReal.coe_inv, ← EReal.coe_mul, div_eq_mul_inv]

/-- One point, as both programs compute it, out of `n` steps. -/
theorem point (k n : ℕ) (hk : k ≤ n) (hn : 0 < n) (hn' : n < 2 ^ 31) (s q a b o : Ideal .f32) (hs : s = ((((BitVec.ofNat 32 k).toInt : ℝ)) : EReal))
    (hq : q = ((n : ℝ) : EReal)) (ha : a = ((-1 : ℝ) : EReal)) (hb : b = ((1 : ℝ) : EReal)) (ho : o = ((1 : ℝ) : EReal)) :
    ∃ g : ℝ, FloatOps.addf (FloatOps.mulf a (FloatOps.subf o (FloatOps.hostDivf s q))) (FloatOps.mulf b (FloatOps.hostDivf s q)) = (g : EReal) ∧ |g| ≤ 1 := by
  have hn0 : (0 : ℝ) < (n : ℝ) := by exact_mod_cast hn
  have hd : FloatOps.hostDivf s q = (((k : ℝ) / (n : ℝ) : ℝ) : EReal) := by
    refine div_at (hs.trans ?_) hq hn0.ne'
    rw [toInt_small k (by omega)]; norm_cast
  refine ⟨-1 * (1 - (k : ℝ) / n) + 1 * ((k : ℝ) / n), ?_, ?_⟩
  · rw [hd, ha, hb, ho, EReal.coe_add, EReal.coe_mul, EReal.coe_mul, EReal.coe_sub]; rfl
  · have h0 : 0 ≤ (k : ℝ) / n := by positivity
    have h1 : (k : ℝ) / n ≤ 1 := by rw [div_le_one hn0]; exact_mod_cast hk
    rw [abs_le]; constructor <;> linarith

/-- The 64 points of the two long axes. -/
theorem lin64 (i : S64.Idx) : ∃ g : ℝ, val_main_v4 (F := Ideal) i = (g : EReal) ∧ |g| ≤ 1 := by
  by_cases h : (i 0).val < 63
  · let j : S63.Idx := fun a => match a with | ⟨0, _⟩ => ⟨(i 0).val, h⟩
    have e : val_main_v4 (F := Ideal) i = val_main_call0_v15 (F := Ideal) j :=
      concatenate_pair_apply_left (0 : Fin 1) (val_main_call0_v15 (F := Ideal)) (val_main_call0_v16 (F := Ideal)) concatenates_S63_S1_S64_d0 i rfl j
        (fun d => match d with | ⟨0, _⟩ => rfl)
    rw [e, val_main_call0_v15_apply, val_main_call0_v11_apply, val_main_call0_v14_apply, val_main_call0_v9_apply, val_main_call0_v6_apply]
    refine point (i 0).val 63 h.le (by norm_num) (by norm_num) _ _ _ _ _ rfl ?_ ?_ ?_ ?_
    · rw [val_main_call0_v5_apply]; exact Voxel.bits_63
    · rw [val_main_call0_v10_apply]; exact bits_neg
    · rw [val_main_call0_v13_apply]; exact Voxel.bits_one
    · rw [val_main_call0_v8_apply]; exact Voxel.bits_one
  · let j : S1.Idx := fun a => match a with | ⟨0, _⟩ => ⟨0, Nat.one_pos⟩
    have h' : (i 0).val = 63 := by have := (i 0).isLt; have h64 : (i 0).val < 64 := this; omega
    have e : val_main_v4 (F := Ideal) i = val_main_call0_v16 (F := Ideal) j :=
      concatenate_pair_apply_right (0 : Fin 1) (val_main_call0_v15 (F := Ideal)) (val_main_call0_v16 (F := Ideal)) concatenates_S63_S1_S64_d0 i rfl rfl j
        (fun d => match d with | ⟨0, _⟩ => fun hh => absurd rfl hh) (by show 0 + 63 = (i 0).val; omega)
    exact ⟨1, e.trans ((val_main_call0_v16_apply j).trans Voxel.bits_one), by norm_num⟩

/-- The 32 points of the short axis. -/
theorem lin32 (i : S32.Idx) : ∃ g : ℝ, val_main_v5 (F := Ideal) i = (g : EReal) ∧ |g| ≤ 1 := by
  by_cases h : (i 0).val < 31
  · let j : S31.Idx := fun a => match a with | ⟨0, _⟩ => ⟨(i 0).val, h⟩
    have e : val_main_v5 (F := Ideal) i = val_main_call1_v15 (F := Ideal) j :=
      concatenate_pair_apply_left (0 : Fin 1) (val_main_call1_v15 (F := Ideal)) (val_main_call1_v16 (F := Ideal)) concatenates_S31_S1_S32_d0 i rfl j
        (fun d => match d with | ⟨0, _⟩ => rfl)
    rw [e, val_main_call1_v15_apply, val_main_call1_v11_apply, val_main_call1_v14_apply, val_main_call1_v9_apply, val_main_call1_v6_apply]
    refine point (i 0).val 31 h.le (by norm_num) (by norm_num) _ _ _ _ _ rfl ?_ ?_ ?_ ?_
    · rw [val_main_call1_v5_apply]; exact Voxel.bits_31
    · rw [val_main_call1_v10_apply]; exact bits_neg
    · rw [val_main_call1_v13_apply]; exact Voxel.bits_one
    · rw [val_main_call1_v8_apply]; exact Voxel.bits_one
  · let j : S1.Idx := fun a => match a with | ⟨0, _⟩ => ⟨0, Nat.one_pos⟩
    have h' : (i 0).val = 31 := by have := (i 0).isLt; have h64 : (i 0).val < 32 := this; omega
    have e : val_main_v5 (F := Ideal) i = val_main_call1_v16 (F := Ideal) j :=
      concatenate_pair_apply_right (0 : Fin 1) (val_main_call1_v15 (F := Ideal)) (val_main_call1_v16 (F := Ideal)) concatenates_S31_S1_S32_d0 i rfl rfl j
        (fun d => match d with | ⟨0, _⟩ => fun hh => absurd rfl hh) (by show 0 + 31 = (i 0).val; omega)
    exact ⟨1, e.trans ((val_main_call1_v16_apply j).trans Voxel.bits_one), by norm_num⟩

/-- The third list is the first again. -/
theorem v6_eq : val_main_v6 (F := Ideal) = val_main_v4 (F := Ideal) := rfl

/-- Point `k` of the 64, of the 32. -/
def ix64 (k : Fin 64) : S64.Idx := fun d => match d with | ⟨0, _⟩ => k
def ix32 (k : Fin 32) : S32.Idx := fun d => match d with | ⟨0, _⟩ => k
def g64 (k : Fin 64) : ℝ := (lin64 (ix64 k)).choose
def g32 (k : Fin 32) : ℝ := (lin32 (ix32 k)).choose
theorem g64_eq (k : Fin 64) : val_main_v4 (F := Ideal) (ix64 k) = (g64 k : EReal) := (lin64 (ix64 k)).choose_spec.1
theorem g32_eq (k : Fin 32) : val_main_v5 (F := Ideal) (ix32 k) = (g32 k : EReal) := (lin32 (ix32 k)).choose_spec.1
theorem g64_le (k : Fin 64) : |g64 k| ≤ 1 := (lin64 (ix64 k)).choose_spec.2
theorem g32_le (k : Fin 32) : |g32 k| ≤ 1 := (lin32 (ix32 k)).choose_spec.2

end Cert.Proof.Lin

end
-- ==== Proof.Words.lean ====
/- INTEGERS AS WORDS. The 32-bit words of the reference read as the integers they hold: a floor converted, a clip, the
   number of a table row; and the test of the ball on the words' differences. -/
module

public import proofs.«01_k».proof.Proof.Lin

@[expose] public section

noncomputable section

namespace Cert.Proof.Words

open Idealize.ShloMosaic Idealize.ShloMosaic.TcCoe Cert.Proof.Voxel Cert.Proof.Lin

/-- The floor of a real number in the words' range. -/
theorem floor_range {p : ℝ} (hp : |p| ≤ 2 ^ 31 - 2) : -(2 ^ 31 - 2 : ℤ) ≤ ⌊p⌋ ∧ ⌊p⌋ ≤ (2 ^ 31 - 2 : ℤ) := by
  obtain ⟨h1, h2⟩ := abs_le.mp hp
  exact ⟨Int.le_floor.mpr (by push_cast; linarith), by exact_mod_cast (Int.floor_le p).trans h2⟩

/-- A floor of a real number in the word's range, converted to a word. -/
theorem floor_word {x : Ideal .f32} {p : ℝ} (hx : x = ((p : ℝ) : EReal)) (hp : |p| ≤ 2 ^ 31 - 2) :
    FloatOps.fptosi 32 (FloatOps.hostUnary .floor x) = BitVec.ofInt 32 ⌊p⌋ := by
  obtain ⟨l, u⟩ := floor_range hp
  show BitVec.ofInt 32 (Ideal.toIntClamped _ _ (Ideal.liftRound Int.floor x)) = _
  rw [hx, Ideal.liftRound_coe, Ideal.toIntClamped_coe, Int.floor_intCast, Int.ceil_intCast, ite_self]
  congr 1
  norm_num at l u ⊢
  omega

/-- The next integer. -/
theorem next_word (z : ℤ) : IntOp.addi (BitVec.ofInt 32 z) 1#32 = BitVec.ofInt 32 (z + 1) :=
  (BitVec.ofInt_add z 1).symm

/-- A word clipped. -/
theorem clip_word (h : ℕ) (hh : h < 2 ^ 31) (z : ℤ) (hl : -(2 ^ 31) ≤ z) (hu : z < 2 ^ 31) :
    IntOp.minsi (BitVec.ofNat 32 h) (IntOp.maxsi 0#32 (BitVec.ofInt 32 z)) = BitVec.ofNat 32 (clipN h z) := by
  have e : (BitVec.ofInt 32 z).toInt = z := BitVec.toInt_ofInt_eq_self (by norm_num) (by norm_num; omega) (by norm_num; omega)
  have e0 : (0#32).toInt = 0 := rfl
  have eh := toInt_small h hh
  unfold IntOp.maxsi
  simp only [BitVec.slt, e, e0, decide_eq_true_eq]
  by_cases h0 : z < 0
  · rw [if_pos h0]
    unfold IntOp.minsi
    simp only [BitVec.slt, e0, eh, decide_eq_true_eq]
    rw [if_neg (by omega)]
    unfold clipN
    congr 1; omega
  · rw [if_neg h0]
    unfold IntOp.minsi
    simp only [BitVec.slt, e, eh, decide_eq_true_eq]
    by_cases h1 : (h : ℤ) < z
    · rw [if_pos h1]; unfold clipN; congr 1; omega
    · rw [if_neg h1]
      have : z = ((clipN h z : ℕ) : ℤ) := by unfold clipN; omega
      rw [this, BitVec.ofInt_natCast]; congr 1; unfold clipN; omega

/-- The number of the row of batch entry `n` and voxel `(y, x, z)`. -/
theorem row_word (n y x z : ℕ) : IntOp.addi (IntOp.addi (IntOp.addi (IntOp.muli (BitVec.ofNat 32 n) 131072#32)
      (IntOp.muli (BitVec.ofNat 32 y) 4096#32)) (IntOp.muli (BitVec.ofNat 32 x) 64#32)) (BitVec.ofNat 32 z)
    = BitVec.ofNat 32 (((n * 32 + y) * 64 + x) * 64 + z) := by
  show (BitVec.ofNat 32 n * BitVec.ofNat 32 131072 + BitVec.ofNat 32 y * BitVec.ofNat 32 4096
    + BitVec.ofNat 32 x * BitVec.ofNat 32 64 + BitVec.ofNat 32 z) = _
  rw [← BitVec.ofNat_mul, ← BitVec.ofNat_mul, ← BitVec.ofNat_mul, ← BitVec.ofNat_add, ← BitVec.ofNat_add, ← BitVec.ofNat_add]
  congr 1; ring

/-- A word's difference to a small number, converted. -/
theorem diff_word (k c : ℕ) (hk : k < 2 ^ 16) (hc : c < 2 ^ 16) :
    (FloatOps.sitofp .f32 (IntOp.subi (BitVec.ofNat 32 k) (BitVec.ofNat 32 c)) : Ideal .f32) = (((k : ℝ) - (c : ℝ) : ℝ) : EReal) := by
  have e : IntOp.subi (BitVec.ofNat 32 k) (BitVec.ofNat 32 c) = BitVec.ofInt 32 ((k : ℤ) - (c : ℤ)) := by
    have h := BitVec.ofInt_add (n := 32) ((k : ℤ) - (c : ℤ)) (c : ℤ)
    rw [sub_add_cancel, BitVec.ofInt_natCast, BitVec.ofInt_natCast] at h
    show BitVec.ofNat 32 k - BitVec.ofNat 32 c = _
    rw [h, BitVec.add_sub_cancel]
  show (((IntOp.subi (BitVec.ofNat 32 k) (BitVec.ofNat 32 c)).toInt : ℝ) : EReal) = _
  rw [e, BitVec.toInt_ofInt_eq_self (by norm_num) (by norm_num; omega) (by norm_num; omega)]
  push_cast; rfl

/-- A small number, converted. -/
theorem nat_word (k : ℕ) (hk : k < 2 ^ 31) : (FloatOps.sitofp .f32 (BitVec.ofNat 32 k) : Ideal .f32) = ((k : ℝ) : EReal) := by
  show (((BitVec.ofNat 32 k).toInt : ℝ) : EReal) = _
  rw [toInt_small k hk]; norm_cast

/-- The ball as the reference tests it: the squares of the scaled distances sum to at most one. -/
theorem ball_word (y x z : ℕ) (a b c o : Ideal .f32) (ha : a = (((y : ℝ) - 8) / 11 : ℝ)) (hb : b = (((x : ℝ) - 10) / 11 : ℝ))
    (hc : c = (((z : ℝ) - 10) / 11 : ℝ)) (ho : o = ((1 : ℝ) : EReal)) :
    (FloatOps.uitofp .f32 (FloatOps.cmpf .ole (FloatOps.addf (FloatOps.addf (FloatOps.mulf a a) (FloatOps.mulf b b)) (FloatOps.mulf c c)) o)
      : Ideal .f32) = ((ball y x z : ℝ) : EReal) := by
  have e : FloatOps.addf (FloatOps.addf (FloatOps.mulf a a) (FloatOps.mulf b b)) (FloatOps.mulf c c)
      = (((((y : ℝ) - 8) * ((y : ℝ) - 8) + ((x : ℝ) - 10) * ((x : ℝ) - 10) + ((z : ℝ) - 10) * ((z : ℝ) - 10)) / 121 : ℝ) : EReal) := by
    rw [ha, hb, hc]
    show ((_ : ℝ) : EReal) * ((_ : ℝ) : EReal) + ((_ : ℝ) : EReal) * ((_ : ℝ) : EReal) + ((_ : ℝ) : EReal) * ((_ : ℝ) : EReal) = _
    rw [← EReal.coe_mul, ← EReal.coe_mul, ← EReal.coe_mul, ← EReal.coe_add, ← EReal.coe_add]
    congr 1; ring
  rw [e, ho]
  show (((Ideal.cmp .ole ((_ : ℝ) : EReal) ((_ : ℝ) : EReal)).toNat : ℝ) : EReal) = _
  congr 1
  unfold ball Ideal.cmp
  simp only [EReal.coe_le_coe_iff]
  by_cases h : ((y : ℝ) - 8) * ((y : ℝ) - 8) + ((x : ℝ) - 10) * ((x : ℝ) - 10) + ((z : ℝ) - 10) * ((z : ℝ) - 10) ≤ 121
  · rw [if_pos h, decide_eq_true (by linarith)]; exact Nat.cast_one
  · rw [if_neg h, decide_eq_false (by intro h'; exact h (by linarith))]; exact Nat.cast_zero

end Cert.Proof.Words

end
-- ==== Proof.Take.lean ====
/- THE TABLE ROWS. The reference reads a table at a list of row numbers eight times by the same operations; here: where every row
   number is the word of a row of the table, each read is the table's row. -/
module

public import proofs.«01_k».proof.Proof.Words
public import Idealize.ShloMosaic.Lib.Routing.Ops
public import Idealize.ShloMosaic.Lib.ReduceAll

@[expose] public section

noncomputable section

namespace Cert.Proof.Take

open Cert.ReferenceIdeal Cert.ReferenceIdeal.Gen Cert.ReferenceIdeal.Read Idealize.ShloMosaic Idealize.ShloMosaic.TcCoe Idealize.SL.Sem
open Cert.Proof.Lin

/-- Row number `q` of the list, entry `o` of row `q` of the table. -/
def listIx (q : Fin 4194304) : S4194304.Idx := fun d => match d with | ⟨0, _⟩ => q
abbrev cellIx (q : Fin 4194304) (o : Fin 3) : S4194304x3.Idx := ValueIdx.ix2 q o

variable (w : IVec S4194304 32)

/-- A list as a column, and each entry of a list for a row of the table. -/
theorem column_at {α : Type} (x : S4194304.Idx → α) (q : Fin 4194304) (z : Fin 1) :
    broadcastInDim S4194304x1 ![0] bcast_S4194304_S4194304x1_0 x (ValueIdx.ix2 q z) = x (listIx q) :=
  broadcastInDim_apply _ bcast_S4194304_S4194304x1_0 x _ (listIx q) (fun a => match a with
    | ⟨0, _⟩ => by show q.val = if (4194304 : Nat) = 1 then 0 else q.val; rw [if_neg (by decide)])
theorem rows_at {α : Type} (x : S4194304.Idx → α) (q : Fin 4194304) (o : Fin 3) :
    broadcastInDim S4194304x3 ![0] bcast_S4194304_S4194304x3_0 x (cellIx q o) = x (listIx q) :=
  broadcastInDim_apply _ bcast_S4194304_S4194304x3_0 x _ (listIx q) (fun a => match a with
    | ⟨0, _⟩ => by show q.val = if (4194304 : Nat) = 1 then 0 else q.val; rw [if_neg (by decide)])

/-- A choice at a place where the first is chosen. -/
theorem pick_at {s : Shape} (c : IVec s 1) (x y : Vec Ideal s .f32) (i : s.Idx) (h : c i = 1#1) : select c x y i = x i := if_pos h

/-- The row numbers as the reference uses them: one that is negative counts from the end. -/
def rowNo : IVec S4194304x1 32 :=
  broadcastInDim S4194304x1 ![0] bcast_S4194304_S4194304x1_0
    (select (cmpi .slt w (broadcastInDim S4194304 ![] bcast_S_S4194304 (constantI S_ 32 0#32)))
      (addi w (broadcastInDim S4194304 ![] bcast_S_S4194304 (constantI S_ 32 4194304#32))) w)

/-- Which row numbers are rows of the table. -/
def inside : IVec S4194304x1 1 :=
  andi (cmpi .sge (rowNo w) (broadcastInDim S4194304x1 ![] bcast_S_S4194304x1 (constantI S_ 32 0#32)))
    (cmpi .sle (rowNo w) (broadcastInDim S4194304x1 ![0, 1] bcast_S1x1_S4194304x1_0_1
      (broadcastInDim S1x1 ![1] bcast_S1_S1x1_1 (constantI S1 32 4194303#32))))

/-- The rows read, those outside of the table filled. -/
def take (tbl : Vec Ideal S4194304x3 .f32) : Vec Ideal S4194304x3 .f32 :=
  select (broadcastInDim S4194304x3 ![0] bcast_S4194304_S4194304x3_0
      (Host.reduce IntOp.andi (inside w) (constantI S_ 1 1#1) reducesTo_S4194304x1_S4194304_d1 h_S_))
    (Host.gather gather_S4194304x3_S4194304x1_S4194304x3_1_0_n_n_0_1_13 tbl (rowNo w))
    (broadcastInDim S4194304x3 ![] bcast_S_S4194304x3 (constant (F := Ideal) S_ .f32 0x7FC00000#32))

variable (row : Fin 4194304 → Fin 4194304) (hw : ∀ q, w (listIx q) = BitVec.ofNat 32 (row q).val)

include hw in
theorem rowNo_at (q : Fin 4194304) : rowNo w (ValueIdx.ix2 q (0 : Fin 1)) = BitVec.ofNat 32 (row q).val := by
  have hr : (row q).val < 2 ^ 31 := by have := (row q).isLt; omega
  unfold rowNo
  rw [column_at _ q 0]
  show Scalar.select (IntOp.cmpi .slt (w (listIx q)) 0#32) (IntOp.addi (w (listIx q)) 4194304#32) (w (listIx q)) = _
  rw [hw]
  have hc : IntOp.cmpi .slt (BitVec.ofNat 32 (row q).val) 0#32 = 0#1 := by
    show BitVec.ofBool (decide ((BitVec.ofNat 32 (row q).val).toInt < (0#32).toInt)) = 0#1
    rw [toInt_small _ hr, decide_eq_false (by show ¬ ((row q).val : ℤ) < 0; omega)]; rfl
  rw [hc]
  exact if_neg (by decide)

include hw in
theorem inside_at (i : S4194304x1.Idx) : inside w i = 1#1 := by
  obtain ⟨q, z, rfl⟩ : ∃ (q : Fin 4194304) (z : Fin 1), i = ValueIdx.ix2 q z := ⟨i 0, i 1, ValueIdx.eq_ix2 i⟩
  obtain rfl : z = 0 := Subsingleton.elim _ _
  have hr : (row q).val < 2 ^ 31 := by have := (row q).isLt; omega
  have hr' : (row q).val ≤ 4194303 := by have := (row q).isLt; omega
  show IntOp.andi (IntOp.cmpi .sge (rowNo w (ValueIdx.ix2 q (0 : Fin 1))) 0#32) (IntOp.cmpi .sle (rowNo w (ValueIdx.ix2 q (0 : Fin 1))) 4194303#32) = 1#1
  rw [rowNo_at w row hw q]
  have h1 : IntOp.cmpi .sge (BitVec.ofNat 32 (row q).val) 0#32 = 1#1 := by
    show BitVec.ofBool (decide ((0#32).toInt ≤ (BitVec.ofNat 32 (row q).val).toInt)) = 1#1
    rw [toInt_small _ hr, decide_eq_true (by show (0 : ℤ) ≤ ((row q).val : ℤ); omega)]; rfl
  have h2 : IntOp.cmpi .sle (BitVec.ofNat 32 (row q).val) 4194303#32 = 1#1 := by
    show BitVec.ofBool (decide ((BitVec.ofNat 32 (row q).val).toInt ≤ (4194303#32).toInt)) = 1#1
    rw [toInt_small _ hr, decide_eq_true (by show ((row q).val : ℤ) ≤ 4194303; omega)]; rfl
  rw [h1, h2]; rfl

include hw in
/-- A row read is the table's row. -/
theorem take_at (tbl : Vec Ideal S4194304x3 .f32) (q : Fin 4194304) (o : Fin 3) : take w tbl (cellIx q o) = tbl (cellIx (row q) o) := by
  have hm := (rows_at (Host.reduce IntOp.andi (inside w) (constantI S_ 1 1#1) reducesTo_S4194304x1_S4194304_d1 h_S_) q o).trans
    (Host.reduce_andi_one (inside w) (constantI S_ 1 1#1) reducesTo_S4194304x1_S4194304_d1 h_S_ _ rfl (inside_at w row hw))
  have hg := Routing.gather_row gather_S4194304x3_S4194304x1_S4194304x3_1_0_n_n_0_1_13 rfl rfl rfl rfl rfl tbl (rowNo w) q o (row q)
    (rowNo_at w row hw q) (by norm_num)
  unfold take
  exact (pick_at _ _ _ _ hm).trans hg

end Cert.Proof.Take

end
-- ==== Proof.Pieces.lean ====
/- THE STORES OF THE BODY. What the body leaves in its output block, as 16 groups of the stores of `Pair`. -/
module

public import proofs.«01_k».proof.Proof.Pair
public import Idealize.ShloMosaic.Lib.Pipeline.Value

@[expose] public section

set_option maxRecDepth 16384

noncomputable section

namespace Cert.Proof.Pair

open Cert.KernelIdeal Cert.KernelIdeal.Gen Idealize.ShloMosaic Idealize.ShloMosaic.TcCoe Idealize.SL.Sem

variable {F : FTy → Type} [FloatOps F]

/-- The body's stores are the six stores of each pair, the last pair first. -/
theorem stores_eq (c : Dev nD) (i : grid0.Coords) (arg2 : Memref sig .tc .vmem S1x32x3x64x64 .f32) (harg2 : arg2.IsWhole)
    (arg3 : Memref sig .tc .vmem S4x64x128 .f32) (harg3 : arg3.IsWhole) (arg4 : Memref sig .tc .smem S2x32 .f32) (harg4 : arg4.IsWhole)
    (arg5 : Memref sig .tc .smem S3x3 .f32) (harg5 : arg5.IsWhole) (arg6 : Memref sig .tc .vmem S1x32x3x64x64 .f32) (harg6 : arg6.IsWhole)
    (x0 : Vec F S1x32x3x64x64 .f32) (x1 : Vec F S4x64x128 .f32) (x2 : Vec F S2x32 .f32) (x3 : Vec F S3x3 .f32) :
    (kernelRun0_A c i arg2 harg2 arg3 harg3 arg4 harg4 arg5 harg5 arg6 harg6 x0 x1 x2 x3).1
      = ([15, 14, 13, 12, 11, 10, 9, 8, 7, 6, 5, 4, 3, 2, 1, 0] : List (Fin 16)).flatMap
          (stores i arg2 harg2 arg3 harg3 arg4 harg4 arg5 harg5 x0 x1 x2 x3) := by
  rfl

/-- A place among the 64 by 128 places of a pair. -/
def ix (a : Fin 64) (b : Fin 128) : S64x128.Idx := fun d => match d with
  | ⟨0, _⟩ => a
  | ⟨1, _⟩ => b

/-- Where in its pair an element of the block is computed: the odd rows take the right half of the lanes. -/
def place (j : S1x32x3x64x64.Idx) : S64x128.Idx :=
  ix (j 3) ⟨(j 4).val + 64 * ((j 1).val % 2), by have h : (j 4).val < 64 := (j 4).isLt; omega⟩

theorem left_apply (p : FVec F S64x128 .f32) (x : S1x1x1x64x64.Idx) :
    left p x = p (ix (x 3) ⟨(x 4).val, by have h : (x 4).val < 64 := (x 4).isLt; omega⟩) := by
  have h0 : (x 0).val < 1 := (x 0).isLt
  have h1 : (x 1).val < 1 := (x 1).isLt
  have h2 : (x 2).val < 1 := (x 2).isLt
  unfold left
  refine (shapeCast_apply _ shapeCasts_S64x64_S1x1x1x64x64 x (fun d => match d with | ⟨0, _⟩ => x 3 | ⟨1, _⟩ => x 4) ?_).trans ?_
  · rw [Shape.rowMajor_val_two, Shape.rowMajor_val_five]
    show (x 3).val * 64 + (x 4).val = ((((x 0).val * 1 + (x 1).val) * 1 + (x 2).val) * 64 + (x 3).val) * 64 + (x 4).val
    omega
  · refine congrArg p (funext fun d => Fin.ext ?_)
    match d with
    | ⟨0, _⟩ => show 0 + (x 3).val = (x 3).val; omega
    | ⟨1, _⟩ => show 0 + (x 4).val = (x 4).val; omega

theorem right_apply (p : FVec F S64x128 .f32) (x : S1x1x1x64x64.Idx) :
    right p x = p (ix (x 3) ⟨(x 4).val + 64, by have h : (x 4).val < 64 := (x 4).isLt; omega⟩) := by
  have h0 : (x 0).val < 1 := (x 0).isLt
  have h1 : (x 1).val < 1 := (x 1).isLt
  have h2 : (x 2).val < 1 := (x 2).isLt
  unfold right
  refine (shapeCast_apply _ shapeCasts_S64x64_S1x1x1x64x64 x (fun d => match d with | ⟨0, _⟩ => x 3 | ⟨1, _⟩ => x 4) ?_).trans ?_
  · rw [Shape.rowMajor_val_two, Shape.rowMajor_val_five]
    show (x 3).val * 64 + (x 4).val = ((((x 0).val * 1 + (x 1).val) * 1 + (x 2).val) * 64 + (x 3).val) * 64 + (x 4).val
    omega
  · refine congrArg p (funext fun d => Fin.ext ?_)
    match d with
    | ⟨0, _⟩ => show 0 + (x 3).val = (x 3).val; omega
    | ⟨1, _⟩ => show 64 + (x 4).val = (x 4).val + 64; omega

/-- Where a place of one of the stores lies in the block. -/
theorem outRect_emb (r ch : ℕ) (h : r < 32) (hc : ch < 3) (x : S1x1x1x64x64.Idx) :
    (((outRect r ch h hc).emb x) 1).val = r ∧ (((outRect r ch h hc).emb x) 3).val = (x 3).val
      ∧ (((outRect r ch h hc).emb x) 4).val = (x 4).val := by
  have h1 : (x 1).val < 1 := (x 1).isLt
  refine ⟨?_, ?_, ?_⟩
  · show r + 1 * (x 1).val = r; omega
  · show 0 + 1 * (x 3).val = (x 3).val; omega
  · show 0 + 1 * (x 4).val = (x 4).val; omega

section Out

variable (c : Dev nD) (i : grid0.Coords) (arg2 : Memref sig .tc .vmem S1x32x3x64x64 .f32) (harg2 : arg2.IsWhole)
    (arg3 : Memref sig .tc .vmem S4x64x128 .f32) (harg3 : arg3.IsWhole) (arg4 : Memref sig .tc .smem S2x32 .f32) (harg4 : arg4.IsWhole)
    (arg5 : Memref sig .tc .smem S3x3 .f32) (harg5 : arg5.IsWhole) (arg6 : Memref sig .tc .vmem S1x32x3x64x64 .f32) (harg6 : arg6.IsWhole)
    (x0 : Vec F S1x32x3x64x64 .f32) (x1 : Vec F S4x64x128 .f32) (x2 : Vec F S2x32 .f32) (x3 : Vec F S3x3 .f32)

/-- The block the body leaves: at each element, its pair's value at its place. -/
def outFn (j : S1x32x3x64x64.Idx) : F .f32 :=
  pairAt i arg2 harg2 arg3 harg3 arg4 harg4 arg5 harg5 x0 x1 x2 x3
    ⟨(j 1).val / 2, by have h : (j 1).val < 32 := (j 1).isLt; omega⟩ (place j)

/-- The right (left) row's store of pair `k` is `outFn` where it stores. -/
theorem right_eq (k : Fin 16) (ch : ℕ) (hc : ch < 3) (x : S1x1x1x64x64.Idx) :
    right (pairAt i arg2 harg2 arg3 harg3 arg4 harg4 arg5 harg5 x0 x1 x2 x3 k) x
      = outFn i arg2 harg2 arg3 harg3 arg4 harg4 arg5 harg5 x0 x1 x2 x3 ((outRect (2 * k.val + 1) ch (by omega) hc).emb x) := by
  obtain ⟨e1, e3, e4⟩ := outRect_emb (2 * k.val + 1) ch (by omega) hc x
  rw [right_apply]
  unfold outFn place
  refine congrArg₂ (pairAt i arg2 harg2 arg3 harg3 arg4 harg4 arg5 harg5 x0 x1 x2 x3) (Fin.ext ?_)
    (congrArg₂ ix (Fin.ext e3.symm) (Fin.ext ?_))
  · show k.val = _ / 2; rw [e1]; omega
  · show (x 4).val + 64 = _ + 64 * (_ % 2); rw [e1, e4]; omega

theorem left_eq (k : Fin 16) (ch : ℕ) (hc : ch < 3) (x : S1x1x1x64x64.Idx) :
    left (pairAt i arg2 harg2 arg3 harg3 arg4 harg4 arg5 harg5 x0 x1 x2 x3 k) x
      = outFn i arg2 harg2 arg3 harg3 arg4 harg4 arg5 harg5 x0 x1 x2 x3 ((outRect (2 * k.val) ch (by omega) hc).emb x) := by
  obtain ⟨e1, e3, e4⟩ := outRect_emb (2 * k.val) ch (by omega) hc x
  rw [left_apply]
  unfold outFn place
  refine congrArg₂ (pairAt i arg2 harg2 arg3 harg3 arg4 harg4 arg5 harg5 x0 x1 x2 x3) (Fin.ext ?_)
    (congrArg₂ ix (Fin.ext e3.symm) (Fin.ext ?_))
  · show k.val = _ / 2; rw [e1]; omega
  · show (x 4).val = _ + 64 * (_ % 2); rw [e1, e4]; omega

/-- What the run leaves in the output's buffer. -/
theorem out_eq : out0_A_4 c i arg2 harg2 arg3 harg3 arg4 harg4 arg5 harg5 arg6 harg6 x0 x1 x2 x3
    = outFn i arg2 harg2 arg3 harg3 arg4 harg4 arg5 harg5 x0 x1 x2 x3 := by
  funext j
  unfold out0_A_4
  rw [View.read_writes_junk_eq_canon]
  refine View.canon_apply_of_pieces (outFn i arg2 harg2 arg3 harg3 arg4 harg4 arg5 harg5 x0 x1 x2 x3) _ ?_ j
    (cover0_A_4 c i arg2 harg2 arg3 harg3 arg4 harg4 arg5 harg5 arg6 harg6 x0 x1 x2 x3 j)
  rw [stores_eq]
  intro p hp
  obtain ⟨k, -, hk⟩ := List.mem_flatMap.mp hp
  simp only [stores, List.mem_cons, List.not_mem_nil, or_false] at hk
  rcases hk with rfl | rfl | rfl | rfl | rfl | rfl
  · exact right_eq i arg2 harg2 arg3 harg3 arg4 harg4 arg5 harg5 x0 x1 x2 x3 k 2 (by omega)
  · exact right_eq i arg2 harg2 arg3 harg3 arg4 harg4 arg5 harg5 x0 x1 x2 x3 k 1 (by omega)
  · exact right_eq i arg2 harg2 arg3 harg3 arg4 harg4 arg5 harg5 x0 x1 x2 x3 k 0 (by omega)
  · exact left_eq i arg2 harg2 arg3 harg3 arg4 harg4 arg5 harg5 x0 x1 x2 x3 k 2 (by omega)
  · exact left_eq i arg2 harg2 arg3 harg3 arg4 harg4 arg5 harg5 x0 x1 x2 x3 k 1 (by omega)
  · exact left_eq i arg2 harg2 arg3 harg3 arg4 harg4 arg5 harg5 x0 x1 x2 x3 k 0 (by omega)

end Out

end Cert.Proof.Pair

end
-- ==== Proof.Element.lean ====
/- ONE ELEMENT OF THE BLOCK. The loads of the body at an index, and the block that it leaves at an element, from the
   element's three channels, the planes of constants, the matrix and the table of the middle coordinate's map. -/
module

public import proofs.«01_k».proof.Proof.Pieces
public import proofs.«01_k».proof.Proof.Voxel
public import Idealize.ShloMosaic.Lib.WholeRead

@[expose] public section

noncomputable section

namespace Cert.Proof.Element

open Cert.KernelIdeal Cert.KernelIdeal.Gen Idealize.ShloMosaic Idealize.ShloMosaic.TcCoe Idealize.SL.Sem Cert.Proof.Pair Cert.Proof.Voxel

variable {F : FTy → Type} [FloatOps F]

/-- Places of the arrays the body reads. -/
def rowIx (c : Fin 3) (a b : Fin 64) : S1x1x3x64x64.Idx := fun d => match d with
  | ⟨0, _⟩ => ⟨0, Nat.one_pos⟩ | ⟨1, _⟩ => ⟨0, Nat.one_pos⟩ | ⟨2, _⟩ => c | ⟨3, _⟩ => a | ⟨4, _⟩ => b
def blkIx (r : Fin 32) (c : Fin 3) (a b : Fin 64) : S1x32x3x64x64.Idx := fun d => match d with
  | ⟨0, _⟩ => ⟨0, Nat.one_pos⟩ | ⟨1, _⟩ => r | ⟨2, _⟩ => c | ⟨3, _⟩ => a | ⟨4, _⟩ => b
def rowsIx (c : Fin 3) (a : Fin 64) (b : Fin 128) : S3x64x128.Idx := fun d => match d with
  | ⟨0, _⟩ => c | ⟨1, _⟩ => a | ⟨2, _⟩ => b
def halfIx (c : Fin 3) (a b : Fin 64) : S3x64x64.Idx := fun d => match d with
  | ⟨0, _⟩ => c | ⟨1, _⟩ => a | ⟨2, _⟩ => b
def planeIx (p : Fin 4) (a : Fin 64) (b : Fin 128) : S4x64x128.Idx := fun d => match d with
  | ⟨0, _⟩ => p | ⟨1, _⟩ => a | ⟨2, _⟩ => b
def onePlaneIx (a : Fin 64) (b : Fin 128) : S1x64x128.Idx := fun d => match d with
  | ⟨0, _⟩ => ⟨0, Nat.one_pos⟩ | ⟨1, _⟩ => a | ⟨2, _⟩ => b
def mapIx (p : Fin 2) (r : Fin 32) : S2x32.Idx := fun d => match d with
  | ⟨0, _⟩ => p | ⟨1, _⟩ => r
def matIx (p q : Fin 3) : S3x3.Idx := fun d => match d with
  | ⟨0, _⟩ => p | ⟨1, _⟩ => q

/-- A row as three planes of 64 by 64. -/
theorem half_apply (A : Vec F S1x1x3x64x64 .f32) (c : Fin 3) (a b : Fin 64) :
    shapeCast S3x64x64 A shapeCasts_S1x1x3x64x64_S3x64x64 (halfIx c a b) = A (rowIx c a b) := by
  refine shapeCast_apply A shapeCasts_S1x1x3x64x64_S3x64x64 (halfIx c a b) (rowIx c a b) ?_
  rw [Shape.rowMajor_val_three, Shape.rowMajor_val_five]
  show (((0 * 1 + 0) * 3 + c.val) * 64 + a.val) * 64 + b.val = (c.val * 64 + a.val) * 64 + b.val
  omega

/-- The two rows side by side, at a left and at a right lane. -/
theorem rows_left (A B : Vec Ideal S1x1x3x64x64 .f32) (c : Fin 3) (a b : Fin 64) (h : b.val < 128) :
    rows A B (rowsIx c a ⟨b.val, h⟩) = A (rowIx c a b) := by
  refine Eq.trans ?_ (half_apply A c a b)
  exact concatenate_pair_apply_left (2 : Fin 3) (shapeCast S3x64x64 A shapeCasts_S1x1x3x64x64_S3x64x64)
    (shapeCast S3x64x64 B shapeCasts_S1x1x3x64x64_S3x64x64) concatenates_S3x64x64_S3x64x64_S3x64x128_d2 (rowsIx c a ⟨b.val, h⟩) rfl (halfIx c a b)
    (fun d => match d with | ⟨0, _⟩ => rfl | ⟨1, _⟩ => rfl | ⟨2, _⟩ => rfl)

theorem rows_right (A B : Vec Ideal S1x1x3x64x64 .f32) (c : Fin 3) (a b : Fin 64) (h : b.val + 64 < 128) :
    rows A B (rowsIx c a ⟨b.val + 64, h⟩) = B (rowIx c a b) := by
  refine Eq.trans ?_ (half_apply B c a b)
  exact concatenate_pair_apply_right (2 : Fin 3) (shapeCast S3x64x64 A shapeCasts_S1x1x3x64x64_S3x64x64)
    (shapeCast S3x64x64 B shapeCasts_S1x1x3x64x64_S3x64x64) concatenates_S3x64x64_S3x64x64_S3x64x128_d2 (rowsIx c a ⟨b.val + 64, h⟩) rfl rfl (halfIx c a b)
    (fun d => match d with | ⟨0, _⟩ => fun _ => rfl | ⟨1, _⟩ => fun _ => rfl | ⟨2, _⟩ => fun h => absurd rfl h) rfl

/-- A channel of three planes, at a place. -/
theorem channel_apply (X : FVec F S3x64x128 .f32) (c : Fin 3) (hs : S3x64x128.Slices ![c.val, 0, 0] S1x64x128) (a : Fin 64) (b : Fin 128) :
    shapeCast S64x128 (extractStridedSlice S1x64x128 ![c.val, 0, 0] X hs) shapeCasts_S1x64x128_S64x128 (ix a b) = X (rowsIx c a b) := by
  refine (shapeCast_apply _ shapeCasts_S1x64x128_S64x128 (ix a b) (onePlaneIx a b) ?_).trans ?_
  · rw [Shape.rowMajor_val_three, Shape.rowMajor_val_two]
    show (0 * 64 + a.val) * 128 + b.val = a.val * 128 + b.val
    omega
  · refine extractStridedSlice_apply _ X hs (onePlaneIx a b) (rowsIx c a b) ?_
    intro d
    match d with
    | ⟨0, _⟩ => show c.val = c.val + 0; omega
    | ⟨1, _⟩ => show a.val = 0 + a.val; omega
    | ⟨2, _⟩ => show b.val = 0 + b.val; omega

/-- A plane of constants, at a place. -/
theorem plane_cast_apply (X : FVec F S1x64x128 .f32) (a : Fin 64) (b : Fin 128) :
    shapeCast S64x128 X shapeCasts_S1x64x128_S64x128 (ix a b) = X (onePlaneIx a b) := by
  refine shapeCast_apply X shapeCasts_S1x64x128_S64x128 (ix a b) (onePlaneIx a b) ?_
  rw [Shape.rowMajor_val_three, Shape.rowMajor_val_two]
  show (0 * 64 + a.val) * 128 + b.val = a.val * 128 + b.val
  omega

section Body

variable (i : grid0.Coords) (arg2 : Memref sig .tc .vmem S1x32x3x64x64 .f32) (harg2 : arg2.IsWhole)
  (arg3 : Memref sig .tc .vmem S4x64x128 .f32) (harg3 : arg3.IsWhole) (arg4 : Memref sig .tc .smem S2x32 .f32) (harg4 : arg4.IsWhole)
  (arg5 : Memref sig .tc .smem S3x3 .f32) (harg5 : arg5.IsWhole)
  (x0 : Vec F S1x32x3x64x64 .f32) (x1 : Vec F S4x64x128 .f32) (x2 : Vec F S2x32 .f32) (x3 : Vec F S3x3 .f32)

/-- A row of the block, loaded. -/
theorem ldRow_apply (r : Fin 32) (c : Fin 3) (a b : Fin 64) :
    ldRow arg2 harg2 x0 r.val r.isLt (rowIx c a b) = x0 (blkIx r c a b) := by
  unfold ldRow
  rw [harg2.readAt_unread]
  refine congrArg x0 (funext fun d => Fin.ext ?_)
  match d with
  | ⟨0, _⟩ => rfl
  | ⟨1, _⟩ => rfl
  | ⟨2, _⟩ => show 0 + 1 * c.val = c.val; omega
  | ⟨3, _⟩ => show 0 + 1 * a.val = a.val; omega
  | ⟨4, _⟩ => show 0 + 1 * b.val = b.val; omega

/-- A plane of constants, loaded. -/
theorem ldPlane_apply (p : Fin 4) (inb : ∀ a, (![p.val, 0, 0] : Fin 3 → ℕ) a + S1x64x128.size a ≤ S4x64x128.size a)
    (a : Fin 64) (b : Fin 128) : ldPlane arg3 harg3 x1 ![p.val, 0, 0] inb (onePlaneIx a b) = x1 (planeIx p a b) := by
  unfold ldPlane
  rw [harg3.readAt_unread]
  refine congrArg x1 (funext fun d => Fin.ext ?_)
  match d with
  | ⟨0, _⟩ => rfl
  | ⟨1, _⟩ => show 0 + 1 * a.val = a.val; omega
  | ⟨2, _⟩ => show 0 + 1 * b.val = b.val; omega

/-- A word of the matrix, loaded. -/
theorem ldMat_eq (p q : Fin 3) (inb : ∀ a, (![p.val, q.val] : Fin 2 → ℕ) a + S1x1.size a ≤ S3x3.size a) :
    ldMat arg5 harg5 x3 ![p.val, q.val] inb = x3 (matIx p q) := by
  unfold ldMat
  rw [harg5.readAt_unread]
  refine congrArg x3 (funext fun d => Fin.ext ?_)
  match d with
  | ⟨0, _⟩ => rfl
  | ⟨1, _⟩ => rfl

/-- A word of the middle coordinate's map, loaded. -/
theorem ldMap_eq (o : Fin 2 → ℕ) (inb : ∀ a, o a + S1x1.size a ≤ S2x32.size a) (p : Fin 2) (r : Fin 32) (e : o = ![p.val, r.val]) :
    ldMap arg4 harg4 x2 o inb = x2 (mapIx p r) := by
  subst e
  unfold ldMap
  rw [harg4.readAt_unread]
  refine congrArg x2 (funext fun d => Fin.ext ?_)
  match d with
  | ⟨0, _⟩ => rfl
  | ⟨1, _⟩ => rfl

/-- The second grid coordinate is zero: the grid has one point on that axis. -/
theorem coord_one : (i 1).val = 0 := by
  have h : (i 1).val < 1 := (i 1).isLt
  omega

/-- So the words of pair `k`'s map are those of rows `2 k` and `2 k + 1`. -/
theorem off1_eq (k : Fin 16) : k0_off1 i (BitVec.ofNat 32 (2 * k.val)) = ![0, 2 * k.val] := by
  unfold k0_off1; rw [coord_one i]; revert k; decide
theorem off2_eq (k : Fin 16) : k0_off2 i (BitVec.ofNat 32 (2 * k.val)) = ![0, 2 * k.val + 1] := by
  unfold k0_off2; rw [coord_one i]; revert k; decide
theorem off3_eq (k : Fin 16) : k0_off3 i (BitVec.ofNat 32 (2 * k.val)) = ![1, 2 * k.val] := by
  unfold k0_off3; rw [coord_one i]; revert k; decide
theorem off4_eq (k : Fin 16) : k0_off4 i (BitVec.ofNat 32 (2 * k.val)) = ![1, 2 * k.val + 1] := by
  unfold k0_off4; rw [coord_one i]; revert k; decide

end Body

/-- The left 64 lanes take the first word, the others the second. -/
theorem lanes_at (s t : Ideal .f32) (a : Fin 64) (b : Fin 128) : lanes s t (ix a b) = if b.val < 64 then s else t := by
  show Scalar.select (IntOp.cmpi .slt (BitVec.ofNat 32 (0 * 128 + b.val)) 64#32) s t = _
  have e : IntOp.cmpi .slt (BitVec.ofNat 32 (0 * 128 + b.val)) 64#32 = if b.val < 64 then 1#1 else 0#1 := by
    revert b; decide
  rw [e]
  unfold Scalar.select
  split_ifs <;> first | rfl | contradiction

/-- One column of the matrix at a place with real channels and words. -/
theorem dot3_at (j : S64x128.Idx) {X0 X1 X2 : FVec Ideal S64x128 .f32} {a b c : Ideal .f32} {p0 p1 p2 u v w : ℝ} (h0 : X0 j = (p0 : EReal))
    (h1 : X1 j = (p1 : EReal)) (h2 : X2 j = (p2 : EReal)) (ha : a = (u : EReal)) (hb : b = (v : EReal)) (hc : c = (w : EReal)) :
    dot3 X0 X1 X2 a b c j = ((p0 * u + p1 * v + p2 * w : ℝ) : EReal) :=
  add_at j (add_at j (mul_at j h0 ha) (mul_at j h1 hb)) (mul_at j h2 hc)

/-- The lane of an element: an odd row is in the right half. -/
def lane (r : Fin 32) (b : Fin 64) : Fin 128 := ⟨b.val + 64 * (r.val % 2), by omega⟩

section Value

variable (i : grid0.Coords) (arg2 : Memref sig .tc .vmem S1x32x3x64x64 .f32) (harg2 : arg2.IsWhole)
  (arg3 : Memref sig .tc .vmem S4x64x128 .f32) (harg3 : arg3.IsWhole) (arg4 : Memref sig .tc .smem S2x32 .f32) (harg4 : arg4.IsWhole)
  (arg5 : Memref sig .tc .smem S3x3 .f32) (harg5 : arg5.IsWhole)
  (x0 : Vec Ideal S1x32x3x64x64 .f32) (x1 : Vec Ideal S4x64x128 .f32) (x2 : Vec Ideal S2x32 .f32) (x3 : Vec Ideal S3x3 .f32)

/-- The pair's two rows at the place of an element are the element's channels. -/
theorem rows_at (r : Fin 32) (c : Fin 3) (a b : Fin 64) (h0 : 2 * (r.val / 2) < 32) (h1 : 2 * (r.val / 2) + 1 < 32) :
    rows (ldRow arg2 harg2 x0 (2 * (r.val / 2)) h0) (ldRow arg2 harg2 x0 (2 * (r.val / 2) + 1) h1) (rowsIx c a (lane r b))
      = x0 (blkIx r c a b) := by
  rcases Nat.mod_two_eq_zero_or_one r.val with e | e
  · have hl : lane r b = ⟨b.val, by omega⟩ := Fin.ext (by show b.val + 64 * (r.val % 2) = b.val; omega)
    have hr : (⟨2 * (r.val / 2), h0⟩ : Fin 32) = r := Fin.ext (by show 2 * (r.val / 2) = r.val; omega)
    rw [hl, rows_left]
    exact (ldRow_apply arg2 harg2 x0 ⟨2 * (r.val / 2), h0⟩ c a b).trans (by rw [hr])
  · have hl : lane r b = ⟨b.val + 64, by omega⟩ := Fin.ext (by show b.val + 64 * (r.val % 2) = b.val + 64; omega)
    have hr : (⟨2 * (r.val / 2) + 1, h1⟩ : Fin 32) = r := Fin.ext (by show 2 * (r.val / 2) + 1 = r.val; omega)
    rw [hl, rows_right]
    exact (ldRow_apply arg2 harg2 x0 ⟨2 * (r.val / 2) + 1, h1⟩ c a b).trans (by rw [hr])

/-- The words of the middle coordinate's map at the place of an element are those of its row. -/
theorem lanes_map (r : Fin 32) (p : Fin 2) (a b : Fin 64) (o o' : Fin 2 → ℕ) (inb : ∀ a, o a + S1x1.size a ≤ S2x32.size a)
    (inb' : ∀ a, o' a + S1x1.size a ≤ S2x32.size a) (e : o = ![p.val, 2 * (r.val / 2)]) (e' : o' = ![p.val, 2 * (r.val / 2) + 1]) :
    lanes (ldMap arg4 harg4 x2 o inb) (ldMap arg4 harg4 x2 o' inb') (ix a (lane r b)) = x2 (mapIx p r) := by
  rw [lanes_at, ldMap_eq arg4 harg4 x2 o inb p ⟨2 * (r.val / 2), by omega⟩ e,
    ldMap_eq arg4 harg4 x2 o' inb' p ⟨2 * (r.val / 2) + 1, by omega⟩ e']
  rcases Nat.mod_two_eq_zero_or_one r.val with h | h
  · have hl : (lane r b).val < 64 := by show b.val + 64 * (r.val % 2) < 64; omega
    rw [if_pos hl]
    exact congrArg (fun q => x2 (mapIx p q)) (Fin.ext (by show 2 * (r.val / 2) = r.val; omega))
  · have hl : ¬ (lane r b).val < 64 := by show ¬ b.val + 64 * (r.val % 2) < 64; omega
    rw [if_neg hl]
    exact congrArg (fun q => x2 (mapIx p q)) (Fin.ext (by show 2 * (r.val / 2) + 1 = r.val; omega))

/-- THE ELEMENT: where the element's channels `X`, the matrix `W`, the four planes `P` at its place and its row's map `M` are
    real, the block holds `vox` of the three coordinates. -/
theorem outFn_at (r : Fin 32) (ch : Fin 3) (a b : Fin 64) (X : Fin 3 → ℝ) (W : Fin 3 → Fin 3 → ℝ) (P : Fin 4 → ℝ) (M : Fin 2 → ℝ)
    (hX : ∀ c, x0 (blkIx r c a b) = (X c : EReal)) (hW : ∀ p q, x3 (matIx p q) = (W p q : EReal))
    (hP : ∀ p, x1 (planeIx p a (lane r b)) = (P p : EReal)) (hM : ∀ p, x2 (mapIx p r) = (M p : EReal)) :
    outFn i arg2 harg2 arg3 harg3 arg4 harg4 arg5 harg5 x0 x1 x2 x3 (blkIx r ch a b)
      = ((vox ((X 0 * W 0 0 + X 1 * W 1 0 + X 2 * W 2 0) * P 0 + P 1)
          ((X 0 * W 0 1 + X 1 * W 1 1 + X 2 * W 2 1) * M 0 + M 1)
          ((X 0 * W 0 2 + X 1 * W 1 2 + X 2 * W 2 2) * P 2 + P 3) : ℝ) : EReal) := by
  have hk : r.val / 2 < 16 := by omega
  have h0 : 2 * (r.val / 2) < 32 := by omega
  have h1 : 2 * (r.val / 2) + 1 < 32 := by omega
  have e0 := (channel_apply (rows (ldRow arg2 harg2 x0 (2 * (r.val / 2)) h0) (ldRow arg2 harg2 x0 (2 * (r.val / 2) + 1) h1)) 0
    slices_S3x64x128_o0_0_0_S1x64x128 a (lane r b)).trans ((rows_at arg2 harg2 x0 r 0 a b h0 h1).trans (hX 0))
  have e1 := (channel_apply (rows (ldRow arg2 harg2 x0 (2 * (r.val / 2)) h0) (ldRow arg2 harg2 x0 (2 * (r.val / 2) + 1) h1)) 1
    slices_S3x64x128_o1_0_0_S1x64x128 a (lane r b)).trans ((rows_at arg2 harg2 x0 r 1 a b h0 h1).trans (hX 1))
  have e2 := (channel_apply (rows (ldRow arg2 harg2 x0 (2 * (r.val / 2)) h0) (ldRow arg2 harg2 x0 (2 * (r.val / 2) + 1) h1)) 2
    slices_S3x64x128_o2_0_0_S1x64x128 a (lane r b)).trans ((rows_at arg2 harg2 x0 r 2 a b h0 h1).trans (hX 2))
  have w := fun (p q : Fin 3) inb => (ldMat_eq arg5 harg5 x3 p q inb).trans (hW p q)
  have pl := fun (p : Fin 4) inb => (plane_cast_apply (ldPlane arg3 harg3 x1 ![p.val, 0, 0] inb) a (lane r b)).trans
    ((ldPlane_apply arg3 harg3 x1 p inb a (lane r b)).trans (hP p))
  have m0 := (lanes_map arg4 harg4 x2 r 0 a b _ _ (k0_off1_inb i ⟨r.val / 2, hk⟩) (k0_off2_inb i ⟨r.val / 2, hk⟩)
    (off1_eq i ⟨r.val / 2, hk⟩) (off2_eq i ⟨r.val / 2, hk⟩)).trans (hM 0)
  have m1 := (lanes_map arg4 harg4 x2 r 1 a b _ _ (k0_off3_inb i ⟨r.val / 2, hk⟩) (k0_off4_inb i ⟨r.val / 2, hk⟩)
    (off3_eq i ⟨r.val / 2, hk⟩) (off4_eq i ⟨r.val / 2, hk⟩)).trans (hM 1)
  exact interp_at (ix a (lane r b))
    (add_at _ (mul_at _ (dot3_at _ e0 e1 e2 (w 0 0 inb_S3x3_S1x1_0_0) (w 1 0 inb_S3x3_S1x1_1_0) (w 2 0 inb_S3x3_S1x1_2_0))
      (pl 0 inb_S4x64x128_S1x64x128_0_0_0)) (pl 1 inb_S4x64x128_S1x64x128_1_0_0))
    (add_at _ (mul_at _ (dot3_at _ e0 e1 e2 (w 0 1 inb_S3x3_S1x1_0_1) (w 1 1 inb_S3x3_S1x1_1_1) (w 2 1 inb_S3x3_S1x1_2_1)) m0) m1)
    (add_at _ (mul_at _ (dot3_at _ e0 e1 e2 (w 0 2 inb_S3x3_S1x1_0_2) (w 1 2 inb_S3x3_S1x1_1_2) (w 2 2 inb_S3x3_S1x1_2_2))
      (pl 2 inb_S4x64x128_S1x64x128_2_0_0)) (pl 3 inb_S4x64x128_S1x64x128_3_0_0))

end Value

end Cert.Proof.Element

end
-- ==== Proof.Host.lean ====
/- WHAT THE REGION FINDS. The arrays that the host operations before the kernel leave, at an index, over real arguments: the
   input with its axes moved, the four planes and the two words per row that map a coordinate to a voxel, and the matrix. -/
module

public import proofs.«01_k».proof.Proof.Element
public import proofs.«01_k».proof.Proof.Lin
public import Idealize.ShloMosaic.Lib.StableHlo.RunRead
public import Idealize.ShloMosaic.Lib.StableHlo.ReadAt

@[expose] public section

noncomputable section

namespace Cert.Proof.Host

open Cert.KernelIdeal Cert.KernelIdeal.Gen Idealize.ShloMosaic Idealize.ShloMosaic.TcCoe Idealize.SL.Sem Cert.Proof.Element Cert.Proof.Lin

/-- A place of the input and of the result, of the input with its axes moved, and of the shift. -/
def argIx (n : Fin 32) (r : Fin 32) (a b : Fin 64) (o : Fin 3) : S32x32x64x64x3.Idx := fun d => match d with
  | ⟨0, _⟩ => n | ⟨1, _⟩ => r | ⟨2, _⟩ => a | ⟨3, _⟩ => b | ⟨4, _⟩ => o
def movedIx (n : Fin 32) (r : Fin 32) (o : Fin 3) (a b : Fin 64) : S32x32x3x64x64.Idx := fun d => match d with
  | ⟨0, _⟩ => n | ⟨1, _⟩ => r | ⟨2, _⟩ => o | ⟨3, _⟩ => a | ⟨4, _⟩ => b
def shiftIx (o : Fin 3) : S3.Idx := fun d => match d with | ⟨0, _⟩ => o

/-- Two joined pieces replaced by equal ones. -/
theorem cat2 {A B C : Shape} {d : Fin C.rank} {a a' : Vec Ideal A .f32} {b b' : Vec Ideal B .f32} (h) (ha : a = a') (hb : b = b') :
    concatenate C d [⟨A, a⟩, ⟨B, b⟩] h = concatenate C d [⟨A, a'⟩, ⟨B, b'⟩] h := by
  subst ha; subst hb; rfl

section Lists

variable (W : Valuation τ sig (Elt Ideal))

/-- The three lists of points, from the two end points. -/
theorem listA (h0 : W (Proc.devRef .tc main_cst) = constant (F := Ideal) S_ .f32 0xBF800000#32)
    (h1 : W (Proc.devRef .tc main_cst_0) = constant (F := Ideal) S_ .f32 0x3F800000#32) :
    StableHlo.after hostOps0_1 W (Proc.devRef .tc main_v7) = Cert.ReferenceIdeal.Read.val_main_v4 (F := Ideal) := by
  after_reads_simp
  refine cat2 _ ?_ ?_
  · after_reads_simp
    rw [h0, h1]
    rfl
  · after_reads_simp
    rw [h1]
    rfl
theorem listB (h0 : W (Proc.devRef .tc main_cst_1) = constant (F := Ideal) S_ .f32 0xBF800000#32)
    (h1 : W (Proc.devRef .tc main_cst_2) = constant (F := Ideal) S_ .f32 0x3F800000#32) :
    StableHlo.after hostOps0_3 W (Proc.devRef .tc main_v8) = Cert.ReferenceIdeal.Read.val_main_v4 (F := Ideal) := by
  after_reads_simp
  refine cat2 _ ?_ ?_
  · after_reads_simp
    rw [h0, h1]
    rfl
  · after_reads_simp
    rw [h1]
    rfl
theorem listC (h0 : W (Proc.devRef .tc main_cst_3) = constant (F := Ideal) S_ .f32 0xBF800000#32)
    (h1 : W (Proc.devRef .tc main_cst_4) = constant (F := Ideal) S_ .f32 0x3F800000#32) :
    StableHlo.after hostOps0_5 W (Proc.devRef .tc main_v9) = Cert.ReferenceIdeal.Read.val_main_v5 (F := Ideal) := by
  after_reads_simp
  refine cat2 _ ?_ ?_
  · after_reads_simp
    rw [h0, h1]
    rfl
  · after_reads_simp
    rw [h1]
    rfl

/-- Four joined planes, at a place: the plane named by the first coordinate. -/
theorem stack4 (v0 v1 v2 v3 : Vec Ideal S1x64x128 .f32) (h : Shape.Concatenates [S1x64x128, S1x64x128, S1x64x128, S1x64x128] S4x64x128 0)
    (a : Fin 64) (b : Fin 128) (p : Fin 4) (w : Vec Ideal S1x64x128 .f32)
    (hw : ([⟨S1x64x128, v0⟩, ⟨S1x64x128, v1⟩, ⟨S1x64x128, v2⟩, ⟨S1x64x128, v3⟩] : List ((s : Shape) × (Vec Ideal s .f32)))[p.val] = ⟨S1x64x128, w⟩)
    (hp : (((([⟨S1x64x128, v0⟩, ⟨S1x64x128, v1⟩, ⟨S1x64x128, v2⟩, ⟨S1x64x128, v3⟩] : List ((s : Shape) × (Vec Ideal s .f32))).take p.val).map
      (·.1)).map fun s => if h : s.rank = S4x64x128.rank then s.size (Fin.cast h.symm 0) else 0).sum = p.val) :
    concatenate S4x64x128 0 [⟨S1x64x128, v0⟩, ⟨S1x64x128, v1⟩, ⟨S1x64x128, v2⟩, ⟨S1x64x128, v3⟩] h (planeIx p a b) = w (onePlaneIx a b) :=
  concatenate_apply_piece (t := S4x64x128) 0 [⟨S1x64x128, v0⟩, ⟨S1x64x128, v1⟩, ⟨S1x64x128, v2⟩, ⟨S1x64x128, v3⟩] h _ p.val p.isLt S1x64x128 w hw rfl p.val hp (onePlaneIx a b)
      (fun d => match d with | ⟨0, _⟩ => fun hh => absurd rfl hh | ⟨1, _⟩ => fun _ => rfl | ⟨2, _⟩ => fun _ => rfl) (Nat.add_zero _)

/-- One row of the map, alone. -/
def oneMapIx (r : Fin 32) : S1x32.Idx := fun d => match d with | ⟨0, _⟩ => ⟨0, Nat.one_pos⟩ | ⟨1, _⟩ => r

/-- Two joined rows, at a place. -/
theorem stack2 (v w : Vec Ideal S1x32 .f32) (h : Shape.Concatenates [S1x32, S1x32] S2x32 0) (r : Fin 32) :
    concatenate S2x32 0 [⟨S1x32, v⟩, ⟨S1x32, w⟩] h (mapIx 0 r) = v (oneMapIx r)
      ∧ concatenate S2x32 0 [⟨S1x32, v⟩, ⟨S1x32, w⟩] h (mapIx 1 r) = w (oneMapIx r) :=
  ⟨concatenate_pair_apply_left (0 : Fin 2) v w h (mapIx 0 r) rfl (oneMapIx r) (fun d => match d with | ⟨0, _⟩ => rfl | ⟨1, _⟩ => rfl),
    concatenate_pair_apply_right (0 : Fin 2) v w h (mapIx 1 r) rfl rfl (oneMapIx r)
      (fun d => match d with | ⟨0, _⟩ => fun hh => absurd rfl hh | ⟨1, _⟩ => fun _ => rfl) rfl⟩

/-- A scaled point, and the map of it, over reals. -/
theorem scaled {k g : Ideal .f32} {K G : ℝ} (hk : k = (K : EReal)) (hg : g = (G : EReal)) : FloatOps.mulf k g = ((K * G : ℝ) : EReal) := by
  rw [hk, hg, EReal.coe_mul]; rfl
theorem mapped {b k g : Ideal .f32} {B K G : ℝ} (hb : b = (B : EReal)) (hk : k = (K : EReal)) (hg : g = (G : EReal)) :
    FloatOps.addf (FloatOps.mulf b (FloatOps.mulf k g)) k = ((B * (K * G) + K : ℝ) : EReal) := by
  rw [scaled hk hg, hb, hk, EReal.coe_add, EReal.coe_mul]; rfl

/-- Four joined planes replaced by equal ones. -/
theorem cat4 {v0 v1 v2 v3 w0 w1 w2 w3 : Vec Ideal S1x64x128 .f32} (h) (e0 : v0 = w0) (e1 : v1 = w1) (e2 : v2 = w2) (e3 : v3 = w3) :
    concatenate S4x64x128 0 [⟨S1x64x128, v0⟩, ⟨S1x64x128, v1⟩, ⟨S1x64x128, v2⟩, ⟨S1x64x128, v3⟩] h
      = concatenate S4x64x128 0 [⟨S1x64x128, w0⟩, ⟨S1x64x128, w1⟩, ⟨S1x64x128, w2⟩, ⟨S1x64x128, w3⟩] h := by
  subst e0; subst e1; subst e2; subst e3; rfl

/-- The stacked planes are the four planes. -/
theorem planes_eq : StableHlo.after hostOps0_6 W (Proc.devRef .tc main_v33)
    = concatenate S4x64x128 0 [⟨S1x64x128, StableHlo.after hostOps0_6 W (Proc.devRef .tc main_v29)⟩,
        ⟨S1x64x128, StableHlo.after hostOps0_6 W (Proc.devRef .tc main_v30)⟩, ⟨S1x64x128, StableHlo.after hostOps0_6 W (Proc.devRef .tc main_v31)⟩,
        ⟨S1x64x128, StableHlo.after hostOps0_6 W (Proc.devRef .tc main_v32)⟩] concatenates_S1x64x128_S1x64x128_S1x64x128_S1x64x128_S4x64x128_d0 := by
  after_reads_simp
  refine cat4 _ ?_ ?_ ?_ ?_
  · show StableHlo.upto _ _ _ (Proc.devRef .tc main_v29) = _
    after_reads_simp
  · show StableHlo.upto _ _ _ (Proc.devRef .tc main_v30) = _
    after_reads_simp
  · show StableHlo.upto _ _ _ (Proc.devRef .tc main_v31) = _
    after_reads_simp
  · show StableHlo.upto _ _ _ (Proc.devRef .tc main_v32) = _
    after_reads_simp

/-- The stacked rows are the two rows. -/
theorem maps_eq : StableHlo.after hostOps0_6 W (Proc.devRef .tc main_v42)
    = concatenate S2x32 0 [⟨S1x32, StableHlo.after hostOps0_6 W (Proc.devRef .tc main_v40)⟩,
        ⟨S1x32, StableHlo.after hostOps0_6 W (Proc.devRef .tc main_v41)⟩] concatenates_S1x32_S1x32_S2x32_d0 := by
  after_reads_simp
  refine cat2 _ ?_ ?_ <;> after_reads_simp

variable (B : Fin 3 → ℝ) (h2 : W (Proc.devRef .tc main_v2) ix0 = (B 0 : EReal)) (h4 : W (Proc.devRef .tc main_v4) ix0 = (B 1 : EReal))
  (h6 : W (Proc.devRef .tc main_v6) ix0 = (B 2 : EReal)) (h7 : ∀ k, W (Proc.devRef .tc main_v7) (ix64 k) = (g64 k : EReal))
  (h8 : ∀ k, W (Proc.devRef .tc main_v8) (ix64 k) = (g64 k : EReal)) (h9 : ∀ k, W (Proc.devRef .tc main_v9) (ix32 k) = (g32 k : EReal))

include h2 h6 h7 h8 in
/-- The planes at a place. -/
theorem planes_at (p : Fin 4) (a : Fin 64) (b : Fin 128) : StableHlo.after hostOps0_6 W (Proc.devRef .tc main_v33) (planeIx p a b)
    = ((![32 * g64 a, B 0 * (32 * g64 a) + 32, 32 * g64 ⟨b.val % 64, Nat.mod_lt _ (by norm_num)⟩,
        B 2 * (32 * g64 ⟨b.val % 64, Nat.mod_lt _ (by norm_num)⟩) + 32] p : ℝ) : EReal) := by
  have e8 := h8 a
  have e7 := h7 ⟨b.val % 64, Nat.mod_lt _ (by norm_num)⟩
  match p with
  | ⟨0, _⟩ =>
    refine (congrFun (planes_eq W) _).trans ?_
    refine (stack4 _ _ _ _ _ a b 0 _ rfl rfl).trans ?_
    after_reads_at
    exact scaled Voxel.bits_32 ((congrArg _ (funext fun d => match d with | ⟨0, _⟩ => rfl)).trans e8)
  | ⟨1, _⟩ =>
    refine (congrFun (planes_eq W) _).trans ?_
    refine (stack4 _ _ _ _ _ a b 1 _ rfl rfl).trans ?_
    after_reads_at
    exact mapped h2 Voxel.bits_32 ((congrArg _ (funext fun d => match d with | ⟨0, _⟩ => rfl)).trans e8)
  | ⟨2, _⟩ =>
    refine (congrFun (planes_eq W) _).trans ?_
    refine (stack4 _ _ _ _ _ a b 2 _ rfl rfl).trans ?_
    after_reads_at
    exact scaled Voxel.bits_32 ((congrArg _ (funext fun d => match d with | ⟨0, _⟩ => rfl)).trans e7)
  | ⟨3, _⟩ =>
    refine (congrFun (planes_eq W) _).trans ?_
    refine (stack4 _ _ _ _ _ a b 3 _ rfl rfl).trans ?_
    after_reads_at
    exact mapped h6 Voxel.bits_32 ((congrArg _ (funext fun d => match d with | ⟨0, _⟩ => rfl)).trans e7)

include h4 h9 in
/-- The middle coordinate's map at a row. -/
theorem maps_at (p : Fin 2) (r : Fin 32) : StableHlo.after hostOps0_6 W (Proc.devRef .tc main_v42) (mapIx p r)
    = ((![16 * g32 r, B 1 * (16 * g32 r) + 16] p : ℝ) : EReal) := by
  have e9 := h9 r
  match p with
  | ⟨0, _⟩ =>
    refine (congrFun (maps_eq W) _).trans ?_
    refine (stack2 _ _ _ r).1.trans ?_
    after_reads_at
    exact scaled Voxel.bits_16 ((congrArg _ (funext fun d => match d with | ⟨0, _⟩ => rfl)).trans e9)
  | ⟨1, _⟩ =>
    refine (congrFun (maps_eq W) _).trans ?_
    refine (stack2 _ _ _ r).2.trans ?_
    after_reads_at
    exact mapped h4 Voxel.bits_16 ((congrArg _ (funext fun d => match d with | ⟨0, _⟩ => rfl)).trans e9)

end Lists

variable (m : (ℓ : Loc nD τ sig) → Buf (Elt Ideal) ℓ) (c : Dev nD)

/-- The contents before the last stretch of host operations. -/
def mid : Valuation τ sig (Elt Ideal) := StableHlo.after hostOps0_5 (StableHlo.after hostOps0_4
  (StableHlo.after hostOps0_3 (StableHlo.after hostOps0_2 (StableHlo.after hostOps0_1 (StableHlo.after hostOps0 fun b => m (c, b))))))

theorem V0_eq : V0 m c = StableHlo.after hostOps0_6 (mid m c) := by
  unfold V0 mid
  simp only [List.flatten_cons, List.flatten_nil, List.append_nil, StableHlo.after_append]

theorem mid_v7 : mid m c (Proc.devRef .tc main_v7) = Cert.ReferenceIdeal.Read.val_main_v4 (F := Ideal) := by
  refine Eq.trans ?_ (listA (StableHlo.after hostOps0 fun b => m (c, b)) ?_ ?_)
  · unfold mid
    generalize (StableHlo.after hostOps0_1 (StableHlo.after hostOps0 fun b => m (c, b))) = W
    after_reads_simp
  · after_reads_simp
  · after_reads_simp

theorem mid_v8 : mid m c (Proc.devRef .tc main_v8) = Cert.ReferenceIdeal.Read.val_main_v4 (F := Ideal) := by
  unfold mid
  generalize (StableHlo.after hostOps0_1 (StableHlo.after hostOps0 fun b => m (c, b))) = W
  refine Eq.trans ?_ (listB (StableHlo.after hostOps0_2 W) ?_ ?_)
  · generalize StableHlo.after hostOps0_3 (StableHlo.after hostOps0_2 W) = W'
    after_reads_simp
  · after_reads_simp
  · after_reads_simp

theorem mid_v9 : mid m c (Proc.devRef .tc main_v9) = Cert.ReferenceIdeal.Read.val_main_v5 (F := Ideal) := by
  unfold mid
  generalize (StableHlo.after hostOps0_3 (StableHlo.after hostOps0_2 (StableHlo.after hostOps0_1 (StableHlo.after hostOps0 fun b => m (c, b))))) = W
  refine listC (StableHlo.after hostOps0_4 W) ?_ ?_
  · after_reads_simp
  · after_reads_simp

/-- The three words of the shift, the matrix and the moved input, before the last stretch. -/
theorem mid_v2 : mid m c (Proc.devRef .tc main_v2) ix0 = m ((c : Thread nD τ).loc main_arg2) (shiftIx 0) := by
  unfold mid
  after_reads_at
  exact congrArg _ (funext fun d => match d with | ⟨0, _⟩ => rfl)
theorem mid_v4 : mid m c (Proc.devRef .tc main_v4) ix0 = m ((c : Thread nD τ).loc main_arg2) (shiftIx 1) := by
  unfold mid
  after_reads_at
  exact congrArg _ (funext fun d => match d with | ⟨0, _⟩ => rfl)
theorem mid_v6 : mid m c (Proc.devRef .tc main_v6) ix0 = m ((c : Thread nD τ).loc main_arg2) (shiftIx 2) := by
  unfold mid
  after_reads_at
  exact congrArg _ (funext fun d => match d with | ⟨0, _⟩ => rfl)
theorem mid_arg1 : mid m c (Proc.devRef .tc main_arg1) = m ((c : Thread nD τ).loc main_arg1) := by
  unfold mid
  after_reads_simp
theorem mid_v0 (n r : Fin 32) (o : Fin 3) (a b : Fin 64) :
    mid m c (Proc.devRef .tc main_v0) (movedIx n r o a b) = m ((c : Thread nD τ).loc main_arg0) (argIx n r a b o) := by
  unfold mid
  after_reads_at
  exact congrArg _ (funext fun d => match d with | ⟨0, _⟩ => rfl | ⟨1, _⟩ => rfl | ⟨2, _⟩ => rfl | ⟨3, _⟩ => rfl | ⟨4, _⟩ => rfl)

/-- THE ARRAYS AS THE REGION FINDS THEM: the moved input and the matrix. -/
theorem V_input (n r : Fin 32) (o : Fin 3) (a b : Fin 64) :
    V m c main_v0 (movedIx n r o a b) = m ((c : Thread nD τ).loc main_arg0) (argIx n r a b o) := by
  rw [← mid_v0 m c]
  show V0 m c (Proc.devRef .tc main_v0) _ = _
  rw [V0_eq]
  generalize mid m c = W
  after_reads_simp
theorem V_matrix : V m c main_v44 = m ((c : Thread nD τ).loc main_arg1) := by
  rw [← mid_arg1 m c]
  show V0 m c (Proc.devRef .tc main_v44) = _
  rw [V0_eq]
  generalize mid m c = W
  after_reads_simp
  rfl

variable (B : Fin 3 → ℝ) (hB : ∀ o, m ((c : Thread nD τ).loc main_arg2) (shiftIx o) = (B o : EReal))

include hB in
/-- The planes, over a real shift. -/
theorem V_planes (p : Fin 4) (a : Fin 64) (b : Fin 128) : V m c main_v33 (planeIx p a b)
    = ((![32 * g64 a, B 0 * (32 * g64 a) + 32, 32 * g64 ⟨b.val % 64, Nat.mod_lt _ (by norm_num)⟩,
        B 2 * (32 * g64 ⟨b.val % 64, Nat.mod_lt _ (by norm_num)⟩) + 32] p : ℝ) : EReal) := by
  show V0 m c (Proc.devRef .tc main_v33) _ = _
  rw [V0_eq]
  exact planes_at (mid m c) B ((mid_v2 m c).trans (hB 0)) ((mid_v6 m c).trans (hB 2))
    (fun k => (congrFun (mid_v7 m c) _).trans (g64_eq k)) (fun k => (congrFun (mid_v8 m c) _).trans (g64_eq k)) p a b

include hB in
/-- The rows' map, over a real shift. -/
theorem V_maps (p : Fin 2) (r : Fin 32) : V m c main_v42 (mapIx p r) = ((![16 * g32 r, B 1 * (16 * g32 r) + 16] p : ℝ) : EReal) := by
  show V0 m c (Proc.devRef .tc main_v42) _ = _
  rw [V0_eq]
  exact maps_at (mid m c) B ((mid_v4 m c).trans (hB 1)) (fun k => (congrFun (mid_v9 m c) _).trans (g32_eq k)) p r

end Cert.Proof.Host

end
-- ==== Proof.Array.lean ====
/- THE RESULT OF THE PROGRAM. Each grid point writes back one block of one array function of the arguments; the blocks cover
   the array; the last host operation moves the axes back. Stated over real arguments. -/
module

public import proofs.«01_k».proof.Proof.Host

@[expose] public section

noncomputable section

namespace Cert.Proof.Whole

open Cert.KernelIdeal Cert.KernelIdeal.Gen Idealize.ShloMosaic Idealize.ShloMosaic.TcCoe Idealize.SL.Sem
open Cert.Proof.Element Cert.Proof.Lin Cert.Proof.Host Cert.Proof.Pair Cert.Proof.Voxel

/-- The transformed coordinate `o` of an element, before the shift. -/
def turned (X : Fin 32 → Fin 32 → Fin 64 → Fin 64 → Fin 3 → ℝ) (W : Fin 3 → Fin 3 → ℝ) (n r : Fin 32) (a b : Fin 64) (o : Fin 3) : ℝ :=
  X n r a b 0 * W 0 o + X n r a b 1 * W 1 o + X n r a b 2 * W 2 o

/-- The value of an element: the interpolation at its three voxel coordinates. -/
def value (X : Fin 32 → Fin 32 → Fin 64 → Fin 64 → Fin 3 → ℝ) (W : Fin 3 → Fin 3 → ℝ) (B : Fin 3 → ℝ) (n r : Fin 32) (a b : Fin 64) : ℝ :=
  vox (turned X W n r a b 0 * (32 * g64 a) + (B 0 * (32 * g64 a) + 32))
    (turned X W n r a b 1 * (16 * g32 r) + (B 1 * (16 * g32 r) + 16))
    (turned X W n r a b 2 * (32 * g64 b) + (B 2 * (32 * g64 b) + 32))

/-- The block indices of the five windows at a grid point: the point on the first axis of the input's and the result's. -/
theorem index0 : ∀ t : Fin cfg0.N, win0_0.index t (0 : Fin 5) = t.val ∧ win0_0.index t (1 : Fin 5) = 0 ∧ win0_0.index t (2 : Fin 5) = 0
    ∧ win0_0.index t (3 : Fin 5) = 0 ∧ win0_0.index t (4 : Fin 5) = 0 := (by decide +kernel : ∀ t : Fin grid0.N, _)
theorem index1 : ∀ t : Fin cfg0.N, win0_1.index t (0 : Fin 3) = 0 ∧ win0_1.index t (1 : Fin 3) = 0 ∧ win0_1.index t (2 : Fin 3) = 0 :=
  (by decide +kernel : ∀ t : Fin grid0.N, _)
theorem index2 : ∀ t : Fin cfg0.N, win0_2.index t (0 : Fin 2) = 0 ∧ win0_2.index t (1 : Fin 2) = 0 := (by decide +kernel : ∀ t : Fin grid0.N, _)
theorem index3 : ∀ t : Fin cfg0.N, win0_3.index t (0 : Fin 2) = 0 ∧ win0_3.index t (1 : Fin 2) = 0 := (by decide +kernel : ∀ t : Fin grid0.N, _)
theorem index4 : ∀ t : Fin cfg0.N, win0_4.index t (0 : Fin 5) = t.val ∧ win0_4.index t (1 : Fin 5) = 0 ∧ win0_4.index t (2 : Fin 5) = 0
    ∧ win0_4.index t (3 : Fin 5) = 0 ∧ win0_4.index t (4 : Fin 5) = 0 := (by decide +kernel : ∀ t : Fin grid0.N, _)

/-- The grid point as a batch index. -/
def batch (t : Fin cfg0.N) : Fin 32 := ⟨t.val, Nat.lt_of_lt_of_eq t.isLt N_0⟩

/-- Where a block's element sits in its array. -/
theorem emb0 (t : Fin cfg0.N) (r : Fin 32) (o : Fin 3) (a b : Fin 64) : ((cfg0.win 0).blk t).view.emb (blkIx r o a b) = movedIx (batch t) r o a b := by
  obtain ⟨e0, e1, e2, e3, e4⟩ := index0 t
  funext d; apply Fin.ext
  match d with
  | ⟨0, _⟩ => show win0_0.index t (0 : Fin 5) * 1 + 1 * 0 = t.val; omega
  | ⟨1, _⟩ => show win0_0.index t (1 : Fin 5) * 32 + 1 * r.val = r.val; omega
  | ⟨2, _⟩ => show win0_0.index t (2 : Fin 5) * 3 + 1 * o.val = o.val; omega
  | ⟨3, _⟩ => show win0_0.index t (3 : Fin 5) * 64 + 1 * a.val = a.val; omega
  | ⟨4, _⟩ => show win0_0.index t (4 : Fin 5) * 64 + 1 * b.val = b.val; omega
theorem emb4 (t : Fin cfg0.N) (r : Fin 32) (o : Fin 3) (a b : Fin 64) : ((cfg0.win 4).blk t).view.emb (blkIx r o a b) = movedIx (batch t) r o a b := by
  obtain ⟨e0, e1, e2, e3, e4⟩ := index4 t
  funext d; apply Fin.ext
  match d with
  | ⟨0, _⟩ => show win0_4.index t (0 : Fin 5) * 1 + 1 * 0 = t.val; omega
  | ⟨1, _⟩ => show win0_4.index t (1 : Fin 5) * 32 + 1 * r.val = r.val; omega
  | ⟨2, _⟩ => show win0_4.index t (2 : Fin 5) * 3 + 1 * o.val = o.val; omega
  | ⟨3, _⟩ => show win0_4.index t (3 : Fin 5) * 64 + 1 * a.val = a.val; omega
  | ⟨4, _⟩ => show win0_4.index t (4 : Fin 5) * 64 + 1 * b.val = b.val; omega
theorem emb1 (t : Fin cfg0.N) (p : Fin 4) (a : Fin 64) (b : Fin 128) : ((cfg0.win 1).blk t).view.emb (planeIx p a b) = planeIx p a b := by
  obtain ⟨e0, e1, e2⟩ := index1 t
  funext d; apply Fin.ext
  match d with
  | ⟨0, _⟩ => show win0_1.index t (0 : Fin 3) * 4 + 1 * p.val = p.val; omega
  | ⟨1, _⟩ => show win0_1.index t (1 : Fin 3) * 64 + 1 * a.val = a.val; omega
  | ⟨2, _⟩ => show win0_1.index t (2 : Fin 3) * 128 + 1 * b.val = b.val; omega
theorem emb2 (t : Fin cfg0.N) (p : Fin 2) (r : Fin 32) : ((cfg0.win 2).blk t).view.emb (mapIx p r) = mapIx p r := by
  obtain ⟨e0, e1⟩ := index2 t
  funext d; apply Fin.ext
  match d with
  | ⟨0, _⟩ => show win0_2.index t (0 : Fin 2) * 2 + 1 * p.val = p.val; omega
  | ⟨1, _⟩ => show win0_2.index t (1 : Fin 2) * 32 + 1 * r.val = r.val; omega
theorem emb3 (t : Fin cfg0.N) (p q : Fin 3) : ((cfg0.win 3).blk t).view.emb (matIx p q) = matIx p q := by
  obtain ⟨e0, e1⟩ := index3 t
  funext d; apply Fin.ext
  match d with
  | ⟨0, _⟩ => show win0_3.index t (0 : Fin 2) * 3 + 1 * p.val = p.val; omega
  | ⟨1, _⟩ => show win0_3.index t (1 : Fin 2) * 3 + 1 * q.val = q.val; omega

variable (m : (ℓ : Loc nD τ sig) → Buf (Elt Ideal) ℓ) (ρ : Dev nD → PrngReg) (c : Dev nD)
  (X : Fin 32 → Fin 32 → Fin 64 → Fin 64 → Fin 3 → ℝ) (W : Fin 3 → Fin 3 → ℝ) (B : Fin 3 → ℝ)

/-- The blocks read at a place: the arrays at the place where it sits. -/
theorem blk0 (t : Fin cfg0.N) (r : Fin 32) (o : Fin 3) (a b : Fin 64) : iblk m c 0 t (blkIx r o a b) = V m c main_v0 (movedIx (batch t) r o a b) :=
  congrArg (V m c main_v0) (emb0 t r o a b)
theorem blk1 (t : Fin cfg0.N) (p : Fin 4) (a : Fin 64) (b : Fin 128) : iblk m c 1 t (planeIx p a b) = V m c main_v33 (planeIx p a b) :=
  congrArg (V m c main_v33) (emb1 t p a b)
theorem blk2 (t : Fin cfg0.N) (p : Fin 2) (r : Fin 32) : iblk m c 2 t (mapIx p r) = V m c main_v42 (mapIx p r) :=
  congrArg (V m c main_v42) (emb2 t p r)
theorem blk3 (t : Fin cfg0.N) (p q : Fin 3) : iblk m c 3 t (matIx p q) = V m c main_v44 (matIx p q) :=
  congrArg (V m c main_v44) (emb3 t p q)

/-- The result array of the region: the value at each element, the same on the three channels. -/
def G : Vec Ideal S32x32x3x64x64 .f32 := fun j => ((value X W B (j 0) (j 1) (j 3) (j 4) : ℝ) : EReal)

variable (hX : ∀ n r a b o, m ((c : Thread nD τ).loc main_arg0) (argIx n r a b o) = (X n r a b o : EReal))
  (hW : ∀ p q, m ((c : Thread nD τ).loc main_arg1) (matIx p q) = (W p q : EReal))
  (hB : ∀ o, m ((c : Thread nD τ).loc main_arg2) (shiftIx o) = (B o : EReal))

include hB in
/-- The planes at an element's lane. -/
theorem planes_lane (p : Fin 4) (r : Fin 32) (a b : Fin 64) : V m c main_v33 (planeIx p a (lane r b))
    = ((![32 * g64 a, B 0 * (32 * g64 a) + 32, 32 * g64 b, B 2 * (32 * g64 b) + 32] p : ℝ) : EReal) := by
  refine (V_planes m c B hB p a (lane r b)).trans ?_
  have hl : (⟨(lane r b).val % 64, Nat.mod_lt _ (by norm_num)⟩ : Fin 64) = b := Fin.ext (by
    show (b.val + 64 * (r.val % 2)) % 64 = b.val; omega)
  rw [hl]

/-- The matrix at a place. -/
theorem matrix_at (p q : Fin 3) : V m c main_v44 (matIx p q) = m ((c : Thread nD τ).loc main_arg1) (matIx p q) :=
  congrFun (V_matrix m c) (matIx p q)

include hX hW hB in
/-- One element of what a grid point leaves. -/
theorem left_at (t : Fin cfg0.N) (r : Fin 32) (o : Fin 3) (a b : Fin 64) :
    outsAt0 m c t (blkIx r o a b) = ((value X W B (batch t) r a b : ℝ) : EReal) := by
  have hx : ∀ o, iblk m c 0 t (blkIx r o a b) = (X (batch t) r a b o : EReal) :=
    fun o => (blk0 m c t r o a b).trans ((V_input m c (batch t) r o a b).trans (hX (batch t) r a b o))
  have hp : ∀ p, iblk m c 1 t (planeIx p a (lane r b))
      = ((![32 * g64 a, B 0 * (32 * g64 a) + 32, 32 * g64 b, B 2 * (32 * g64 b) + 32] p : ℝ) : EReal) :=
    fun p => (blk1 m c t p a (lane r b)).trans (planes_lane m c B hB p r a b)
  have hm : ∀ p, iblk m c 2 t (mapIx p r) = ((![16 * g32 r, B 1 * (16 * g32 r) + 16] p : ℝ) : EReal) :=
    fun p => (blk2 m c t p r).trans (V_maps m c B hB p r)
  have hw : ∀ p q, iblk m c 3 t (matIx p q) = (W p q : EReal) := fun p q => (blk3 m c t p q).trans ((matrix_at m c p q).trans (hW p q))
  unfold outsAt0
  rw [out_eq]
  generalize iblk m c 0 t = y0 at hx ⊢
  generalize iblk m c 1 t = y1 at hp ⊢
  generalize iblk m c 2 t = y2 at hm ⊢
  generalize iblk m c 3 t = y3 at hw ⊢
  have h := outFn_at (grid0.coords t) (ms0_0 t) (hs0_0 t) (ms0_1 t) (hs0_1 t) (ms0_2 t) (hs0_2 t) (ms0_3 t) (hs0_3 t) y0 y1 y2 y3 r o a b
    (X (batch t) r a b) W ![32 * g64 a, B 0 * (32 * g64 a) + 32, 32 * g64 b, B 2 * (32 * g64 b) + 32]
    ![16 * g32 r, B 1 * (16 * g32 r) + 16] hx hw hp hm
  exact h

/-- An index of a block, from its coordinates. -/
theorem eq_blkIx (j : S1x32x3x64x64.Idx) : j = blkIx (j 1) (j 2) (j 3) (j 4) := by
  funext d
  match d with
  | ⟨0, _⟩ => exact Fin.ext (by have h : (j 0).val < 1 := (j 0).isLt; show (j 0).val = 0; omega)
  | ⟨1, _⟩ => rfl | ⟨2, _⟩ => rfl | ⟨3, _⟩ => rfl | ⟨4, _⟩ => rfl

include hX hW hB in
/-- What a grid point writes back is its block of `G`. -/
theorem flushed4 (t : Fin cfg0.N) : (dats m 0 c).flushed 4 t = ((cfg0.win 4).blk t).view.read (Elt Ideal) (G X W B) := by
  show (cfg0.win 4).cut (grid0.coords t) ((dats m 0 c).after 4 t) = _
  rw [after0_4]
  refine funext fun (j : S1x32x3x64x64.Idx) => ?_
  show outsAt0 m c t j = G X W B (((cfg0.win 4).blk t).view.emb j)
  obtain ⟨r, o, a, b, rfl⟩ : ∃ r o a b, j = blkIx r o a b := ⟨_, _, _, _, eq_blkIx j⟩
  exact (left_at m c X W B hX hW hB t r o a b).trans (congrArg (G X W B) (emb4 t r o a b)).symm

/-- Every element of the array is in the block of its batch index. -/
theorem covered4 (i : S32x32x3x64x64.Idx) : ∃ t : Fin cfg0.N, (cfg0.win 4).flush t = true ∧ i ∈ ((cfg0.win 4).blk t).view.set := by
  have h0 : (i 0).val < 32 := (i 0).isLt
  let t : Fin cfg0.N := ⟨(i 0).val, Nat.lt_of_lt_of_eq h0 N_0.symm⟩
  have h := ((cfg0.win 4).blk t).view.emb_mem_set (blkIx (i 1) (i 2) (i 3) (i 4))
  have e : movedIx (batch t) (i 1) (i 2) (i 3) (i 4) = i :=
    funext fun d => match d with | ⟨0, _⟩ => rfl | ⟨1, _⟩ => rfl | ⟨2, _⟩ => rfl | ⟨3, _⟩ => rfl | ⟨4, _⟩ => rfl
  have e' := (emb4 t (i 1) (i 2) (i 3) (i 4)).trans e
  exact ⟨t, flush0_4 _, e' ▸ h⟩

include hX hW hB in
/-- The array of the region after the run. -/
theorem final4 : (dats m 0 c).arrAt 4 cfg0.N = G X W B :=
  (dats m 0 c).arrAt_eq_of_cover 4 (G X W B) (fun t _ => flushed4 m c X W B hX hW hB t) covered4

/-- The result of the program, from the value at each element. -/
def R : Vec Ideal S32x32x64x64x3 .f32 := fun j => ((value X W B (j 0) (j 1) (j 2) (j 3) : ℝ) : EReal)

include hX hW hB in
/-- The last host operation's result. -/
theorem tail_eq : Pipeline.afterTail₀ cfgs (dats m) 0 (V0 m) [hostOps1] c main_v46 = R X W B := by
  unfold Pipeline.afterTail₀
  show StableHlo.after hostOps1 _ (Proc.devRef .tc main_v46) = _
  have e : Pipeline.withArrays cfg0.spec c (V0 m c) (fun w => (dats m 0 c).arrAt w cfg0.N) (Proc.devRef .tc main_v45) = G X W B :=
    (Pipeline.withArrays_arr spec0 winFacts0.arr_inj c (V0 m c) (fun w => (dats m 0 c).arrAt w cfg0.N) 4).trans (final4 m c X W B hX hW hB)
  generalize Pipeline.withArrays _ c (V0 m c) _ = U at e ⊢
  after_reads_simp
  rw [e]
  funext j
  exact transpose_apply _ (G X W B) transposes_S32x32x3x64x64_S32x32x64x64x3_0_1_3_4_2 j (movedIx (j 0) (j 1) (j 4) (j 2) (j 3))
    (fun d => match d with | ⟨0, _⟩ => rfl | ⟨1, _⟩ => rfl | ⟨2, _⟩ => rfl | ⟨3, _⟩ => rfl | ⟨4, _⟩ => rfl)

end Cert.Proof.Whole

end
-- ==== Proof.Coord.lean ====
/- THE REFERENCE'S COORDINATES AND TABLE. Over real arguments: the transformed coordinates times the points, scaled to voxels;
   and the ball's table, row by row. -/
module

public import proofs.«01_k».proof.Proof.Take
public import proofs.«01_k».proof.Proof.Array

@[expose] public section

noncomputable section

namespace Cert.Proof.Coord

open Cert.ReferenceIdeal Cert.ReferenceIdeal.Gen Cert.ReferenceIdeal.Read Idealize.ShloMosaic Idealize.ShloMosaic.TcCoe Idealize.SL.Sem
open Cert.Proof.Lin Cert.Proof.Voxel Cert.Proof.Words Cert.Proof.Take Cert.Proof.Host Cert.Proof.Element Cert.Proof.Whole

/-- The row of batch entry `n` and voxel `(y, x, z)`. -/
def rowOf (n y : Fin 32) (x z : Fin 64) : Fin 4194304 := ⟨((n.val * 32 + y.val) * 64 + x.val) * 64 + z.val, by omega⟩

/-- A voxel, and one channel of the points. -/
def voxIx (y : Fin 32) (x z : Fin 64) : S32x64x64.Idx := fun d => match d with | ⟨0, _⟩ => y | ⟨1, _⟩ => x | ⟨2, _⟩ => z
def chanIx (o : Fin 3) (y : Fin 32) (x z : Fin 64) : S3x32x64x64.Idx := fun d => match d with
  | ⟨0, _⟩ => o | ⟨1, _⟩ => y | ⟨2, _⟩ => x | ⟨3, _⟩ => z
def oneIx (y : Fin 32) (x z : Fin 64) : S1x32x64x64.Idx := fun d => match d with
  | ⟨0, _⟩ => ⟨0, Nat.one_pos⟩ | ⟨1, _⟩ => y | ⟨2, _⟩ => x | ⟨3, _⟩ => z

/-! ## The table -/

/-- The distances of a voxel on the three axes, scaled. -/
theorem scaled_at (k c : ℕ) (hk : k < 2 ^ 16) (hc : c < 2 ^ 16) (e : Ideal .f32) (he : e = ((11 : ℝ) : EReal)) :
    FloatOps.hostDivf (FloatOps.sitofp .f32 (IntOp.subi (BitVec.ofNat 32 k) (BitVec.ofNat 32 c)) : Ideal .f32) e
      = ((((k : ℝ) - (c : ℝ)) / 11 : ℝ) : EReal) :=
  div_at (diff_word k c hk hc) he (by norm_num)

theorem ball_at (y : Fin 32) (x z : Fin 64) : val_main_v134 (F := Ideal) (voxIx y x z) = ((ball y.val x.val z.val : ℝ) : EReal) := by
  rw [val_main_v134_apply, val_main_v133_apply, val_main_v131_apply, val_main_v124_apply, val_main_v117_apply, val_main_v123_apply, val_main_v130_apply]
  have hy := scaled_at y.val 8 (by omega) (by norm_num) _ bits_11
  have hx := scaled_at x.val 10 (by omega) (by norm_num) _ bits_11
  have hz := scaled_at z.val 10 (by omega) (by norm_num) _ bits_11
  refine ball_word y.val x.val z.val _ _ _ _ ?_ ?_ ?_ ?_
  · rw [val_main_v116_apply, val_main_v114_apply, val_main_v113_apply, val_main_v109_apply, val_main_v112_apply, val_main_v115_apply]
    exact_mod_cast hy
  · rw [val_main_v122_apply, val_main_v120_apply, val_main_v119_apply, val_main_v110_apply, val_main_v118_apply, val_main_v121_apply]
    exact_mod_cast hx
  · rw [val_main_v129_apply, val_main_v127_apply, val_main_v126_apply, val_main_v111_apply, val_main_v125_apply, val_main_v128_apply]
    exact_mod_cast hz
  · rw [val_main_v132_apply]; exact bits_one

/-- A row of the table. -/
theorem table_at (n y : Fin 32) (x z : Fin 64) (o : Fin 3) :
    val_main_v137 (F := Ideal) (cellIx (rowOf n y x z) o) = ((ball y.val x.val z.val : ℝ) : EReal) := by
  rw [val_main_v137_apply, val_main_v136_apply, val_main_v135_apply, ← ball_at]
  refine congrArg _ (funext fun d => Fin.ext ?_)
  match d with
  | ⟨0, _⟩ => show ((((n.val * 32 + y.val) * 64 + x.val) * 64 + z.val) * 3 + o.val) / 12288 % 32 = y.val; omega
  | ⟨1, _⟩ => show ((((n.val * 32 + y.val) * 64 + x.val) * 64 + z.val) * 3 + o.val) / 192 % 64 = x.val; omega
  | ⟨2, _⟩ => show ((((n.val * 32 + y.val) * 64 + x.val) * 64 + z.val) * 3 + o.val) / 3 % 64 = z.val; omega

/-! ## The coordinates -/

/-- The three pieces joined. -/
def pieces : List ((s : Shape) × (s.Idx → Ideal .f32)) :=
  [⟨S1x32x64x64, val_main_v10 (F := Ideal)⟩, ⟨S1x32x64x64, val_main_v11 (F := Ideal)⟩, ⟨S1x32x64x64, val_main_v12 (F := Ideal)⟩]

theorem piece_at (o : Fin 3) (u : S1x32x64x64.Idx → Ideal .f32) (hu : pieces[o.val]'o.isLt = ⟨S1x32x64x64, u⟩)
    (hp : (((pieces.take o.val).map (·.1)).map fun s => if h : s.rank = S3x32x64x64.rank then s.size ((0 : Fin 4).cast h.symm) else 0).sum = o.val)
    (y : Fin 32) (x z : Fin 64) : val_main_v13 (F := Ideal) (chanIx o y x z) = u (oneIx y x z) :=
  concatenate_apply_piece (t := S3x32x64x64) (0 : Fin 4) pieces concatenates_S1x32x64x64_S1x32x64x64_S1x32x64x64_S3x32x64x64_d0 (chanIx o y x z)
    o.val o.isLt S1x32x64x64 u hu rfl o.val hp (oneIx y x z)
    (fun b => match b with | ⟨0, _⟩ => fun h => absurd rfl h | ⟨1, _⟩ => fun _ => rfl | ⟨2, _⟩ => fun _ => rfl | ⟨3, _⟩ => fun _ => rfl) rfl

theorem pick0 (y : Fin 32) (x z : Fin 64) : val_main_v13 (F := Ideal) (chanIx 0 y x z) = ((g64 x : ℝ) : EReal) := by
  rw [piece_at 0 _ rfl rfl, val_main_v10_apply, val_main_v8_apply, ← g64_eq]
  exact congrArg _ (funext fun d => match d with | ⟨0, _⟩ => rfl)
theorem pick1 (y : Fin 32) (x z : Fin 64) : val_main_v13 (F := Ideal) (chanIx 1 y x z) = ((g32 y : ℝ) : EReal) := by
  rw [piece_at 1 _ rfl rfl, val_main_v11_apply, val_main_v7_apply, ← g32_eq]
  exact congrArg _ (funext fun d => match d with | ⟨0, _⟩ => rfl)
theorem pick2 (y : Fin 32) (x z : Fin 64) : val_main_v13 (F := Ideal) (chanIx 2 y x z) = ((g64 z : ℝ) : EReal) := by
  rw [piece_at 2 _ rfl rfl, val_main_v12_apply, val_main_v9_apply, v6_eq, ← g64_eq]
  exact congrArg _ (funext fun d => match d with | ⟨0, _⟩ => rfl)

/-- The points by channel. -/
def point3 (o : Fin 3) (r : Fin 32) (a b : Fin 64) : ℝ := ![g64 a, g32 r, g64 b] o

theorem points_at (n r : Fin 32) (a b : Fin 64) (o : Fin 3) : val_main_v16 (F := Ideal) (argIx n r a b o) = ((point3 o r a b : ℝ) : EReal) := by
  rw [val_main_v16_apply, val_main_v15_apply, val_main_v14_apply]
  have e : idx_main_v14 (idx_main_v15 (idx_main_v16 (argIx n r a b o))) = chanIx o r a b :=
    funext fun d => match d with | ⟨0, _⟩ => rfl | ⟨1, _⟩ => rfl | ⟨2, _⟩ => rfl | ⟨3, _⟩ => rfl
  rw [e]
  match o with
  | ⟨0, _⟩ => exact pick0 r a b
  | ⟨1, _⟩ => exact pick1 r a b
  | ⟨2, _⟩ => exact pick2 r a b

variable (x0 : Vec Ideal S32x32x64x64x3 .f32) (x1 : Vec Ideal S3x3 .f32) (x2 : Vec Ideal S3 .f32)
  (X : Fin 32 → Fin 32 → Fin 64 → Fin 64 → Fin 3 → ℝ) (W : Fin 3 → Fin 3 → ℝ) (B : Fin 3 → ℝ)
  (hX : ∀ n r a b o, x0 (argIx n r a b o) = (X n r a b o : EReal)) (hW : ∀ p q, x1 (matIx p q) = (W p q : EReal))
  (hB : ∀ o, x2 (shiftIx o) = (B o : EReal))

include hX hW in
theorem dot_at (n r : Fin 32) (a b : Fin 64) (o : Fin 3) :
    val_main_v0 (F := Ideal) x0 x1 (argIx n r a b o) = ((turned X W n r a b o : ℝ) : EReal) := by
  rw [val_main_v0_apply, Fin.sum_univ_three]
  have l : ∀ k : Fin 3, lidx_main_v0 (argIx n r a b o) k = argIx n r a b k := fun k =>
    funext fun d => match d with | ⟨0, _⟩ => rfl | ⟨1, _⟩ => rfl | ⟨2, _⟩ => rfl | ⟨3, _⟩ => rfl | ⟨4, _⟩ => rfl
  have s : ∀ k : Fin 3, ridx_main_v0 (argIx n r a b o) k = matIx k o := fun k =>
    funext fun d => match d with | ⟨0, _⟩ => rfl | ⟨1, _⟩ => rfl
  rw [l 0, l 1, l 2, s 0, s 1, s 2, hX, hX, hX, hW, hW, hW, ← EReal.coe_mul, ← EReal.coe_mul, ← EReal.coe_mul, ← EReal.coe_add, ← EReal.coe_add]
  rfl

include hX hW hB in
theorem prod_at (n r : Fin 32) (a b : Fin 64) (o : Fin 3) :
    val_main_v17 (F := Ideal) x0 x1 x2 (argIx n r a b o) = (((turned X W n r a b o + B o) * point3 o r a b : ℝ) : EReal) := by
  rw [val_main_v17_apply, val_main_v3_apply, val_main_v2_apply, val_main_v1_apply, dot_at x0 x1 X W hX hW, points_at]
  have e : idx_main_v1 (idx_main_v2 (argIx n r a b o)) = shiftIx o := funext fun d => match d with | ⟨0, _⟩ => rfl
  rw [e, hB, EReal.coe_mul, EReal.coe_add]
  rfl

/-- A place without its channel, and with a channel alone. -/
def quadIx (n r : Fin 32) (a b : Fin 64) : S32x32x64x64.Idx := fun d => match d with
  | ⟨0, _⟩ => n | ⟨1, _⟩ => r | ⟨2, _⟩ => a | ⟨3, _⟩ => b
def pentIx (n r : Fin 32) (a b : Fin 64) : S32x32x64x64x1.Idx := fun d => match d with
  | ⟨0, _⟩ => n | ⟨1, _⟩ => r | ⟨2, _⟩ => a | ⟨3, _⟩ => b | ⟨4, _⟩ => ⟨0, Nat.one_pos⟩

theorem unflat (n r : Fin 32) (a b : Fin 64) : idx_main_v20 (listIx (rowOf n r a b)) = quadIx n r a b :=
  funext fun d => Fin.ext (match d with
  | ⟨0, _⟩ => by show (((n.val * 32 + r.val) * 64 + a.val) * 64 + b.val) / 131072 = n.val; omega
  | ⟨1, _⟩ => by show (((n.val * 32 + r.val) * 64 + a.val) * 64 + b.val) / 4096 % 32 = r.val; omega
  | ⟨2, _⟩ => by show (((n.val * 32 + r.val) * 64 + a.val) * 64 + b.val) / 64 % 64 = a.val; omega
  | ⟨3, _⟩ => by show (((n.val * 32 + r.val) * 64 + a.val) * 64 + b.val) % 64 = b.val; omega)
theorem unchan (n r : Fin 32) (a b : Fin 64) : idx_main_v19 (quadIx n r a b) = pentIx n r a b :=
  funext fun d => Fin.ext (match d with
  | ⟨0, _⟩ => by show (((n.val * 32 + r.val) * 64 + a.val) * 64 + b.val) / 131072 = n.val; omega
  | ⟨1, _⟩ => by show (((n.val * 32 + r.val) * 64 + a.val) * 64 + b.val) / 4096 % 32 = r.val; omega
  | ⟨2, _⟩ => by show (((n.val * 32 + r.val) * 64 + a.val) * 64 + b.val) / 64 % 64 = a.val; omega
  | ⟨3, _⟩ => by show (((n.val * 32 + r.val) * 64 + a.val) * 64 + b.val) / 1 % 64 = b.val; omega
  | ⟨4, _⟩ => rfl)

include hX hW hB in
theorem chan0 (n r : Fin 32) (a b : Fin 64) : val_main_v20 (F := Ideal) x0 x1 x2 (listIx (rowOf n r a b))
    = (((turned X W n r a b 0 + B 0) * g64 a : ℝ) : EReal) := by
  rw [val_main_v20_apply, unflat, val_main_v19_apply, unchan, val_main_v18_apply]
  exact (congrArg _ (funext fun d => match d with | ⟨0, _⟩ => rfl | ⟨1, _⟩ => rfl | ⟨2, _⟩ => rfl | ⟨3, _⟩ => rfl | ⟨4, _⟩ => rfl)).trans
    (prod_at x0 x1 x2 X W B hX hW hB n r a b 0)
include hX hW hB in
theorem chan1 (n r : Fin 32) (a b : Fin 64) : val_main_v23 (F := Ideal) x0 x1 x2 (listIx (rowOf n r a b))
    = (((turned X W n r a b 1 + B 1) * g32 r : ℝ) : EReal) := by
  rw [val_main_v23_apply, show idx_main_v23 (listIx (rowOf n r a b)) = quadIx n r a b from unflat n r a b, val_main_v22_apply,
    show idx_main_v22 (quadIx n r a b) = pentIx n r a b from unchan n r a b, val_main_v21_apply]
  exact (congrArg _ (funext fun d => match d with | ⟨0, _⟩ => rfl | ⟨1, _⟩ => rfl | ⟨2, _⟩ => rfl | ⟨3, _⟩ => rfl | ⟨4, _⟩ => rfl)).trans
    (prod_at x0 x1 x2 X W B hX hW hB n r a b 1)
include hX hW hB in
theorem chan2 (n r : Fin 32) (a b : Fin 64) : val_main_v26 (F := Ideal) x0 x1 x2 (listIx (rowOf n r a b))
    = (((turned X W n r a b 2 + B 2) * g64 b : ℝ) : EReal) := by
  rw [val_main_v26_apply, show idx_main_v26 (listIx (rowOf n r a b)) = quadIx n r a b from unflat n r a b, val_main_v25_apply,
    show idx_main_v25 (quadIx n r a b) = pentIx n r a b from unchan n r a b, val_main_v24_apply]
  exact (congrArg _ (funext fun d => match d with | ⟨0, _⟩ => rfl | ⟨1, _⟩ => rfl | ⟨2, _⟩ => rfl | ⟨3, _⟩ => rfl | ⟨4, _⟩ => rfl)).trans
    (prod_at x0 x1 x2 X W B hX hW hB n r a b 2)

/-- A coordinate scaled to voxels. -/
theorem scale_at {u one half size : Ideal .f32} {t c g s : ℝ} (hu : u = (((t + c) * g : ℝ) : EReal)) (h1 : one = ((1 : ℝ) : EReal))
    (hh : half = ((1 / 2 : ℝ) : EReal)) (hs : size = ((2 * s : ℝ) : EReal)) :
    FloatOps.mulf (FloatOps.mulf half (FloatOps.addf u one)) size = ((t * (s * g) + (c * (s * g) + s) : ℝ) : EReal) := by
  rw [hu, h1, hh, hs]
  show ((_ : ℝ) : EReal) * (((_ : ℝ) : EReal) + ((_ : ℝ) : EReal)) * ((_ : ℝ) : EReal) = _
  rw [← EReal.coe_add, ← EReal.coe_mul, ← EReal.coe_mul]
  congr 1; ring

/-- The three voxel coordinates of an element. -/
def xf (n r : Fin 32) (a b : Fin 64) : ℝ := turned X W n r a b 0 * (32 * g64 a) + (B 0 * (32 * g64 a) + 32)
def yf (n r : Fin 32) (a b : Fin 64) : ℝ := turned X W n r a b 1 * (16 * g32 r) + (B 1 * (16 * g32 r) + 16)
def zf (n r : Fin 32) (a b : Fin 64) : ℝ := turned X W n r a b 2 * (32 * g64 b) + (B 2 * (32 * g64 b) + 32)

include hX hW hB in
theorem xf_at (n r : Fin 32) (a b : Fin 64) : val_main_v32 (F := Ideal) x0 x1 x2 (listIx (rowOf n r a b)) = ((xf X W B n r a b : ℝ) : EReal) := by
  rw [val_main_v32_apply, val_main_v30_apply, val_main_v28_apply, val_main_v27_apply, val_main_v29_apply, val_main_v31_apply]
  exact scale_at (chan0 x0 x1 x2 X W B hX hW hB n r a b) bits_one bits_half (bits_64.trans (by norm_num))
include hX hW hB in
theorem yf_at (n r : Fin 32) (a b : Fin 64) : val_main_v38 (F := Ideal) x0 x1 x2 (listIx (rowOf n r a b)) = ((yf X W B n r a b : ℝ) : EReal) := by
  rw [val_main_v38_apply, val_main_v36_apply, val_main_v34_apply, val_main_v33_apply, val_main_v35_apply, val_main_v37_apply]
  exact scale_at (chan1 x0 x1 x2 X W B hX hW hB n r a b) bits_one bits_half (bits_32.trans (by norm_num))
include hX hW hB in
theorem zf_at (n r : Fin 32) (a b : Fin 64) : val_main_v44 (F := Ideal) x0 x1 x2 (listIx (rowOf n r a b)) = ((zf X W B n r a b : ℝ) : EReal) := by
  rw [val_main_v44_apply, val_main_v42_apply, val_main_v40_apply, val_main_v39_apply, val_main_v41_apply, val_main_v43_apply]
  exact scale_at (chan2 x0 x1 x2 X W B hX hW hB n r a b) bits_one bits_half (bits_64.trans (by norm_num))

/-- Every row of the list is one place. -/
theorem exists_row (q : Fin 4194304) : ∃ (n r : Fin 32) (a b : Fin 64), q = rowOf n r a b :=
  ⟨⟨q.val / 131072, by omega⟩, ⟨q.val / 4096 % 32, by omega⟩, ⟨q.val / 64 % 64, by omega⟩, ⟨q.val % 64, by omega⟩,
    Fin.ext (by show q.val = ((q.val / 131072 * 32 + q.val / 4096 % 32) * 64 + q.val / 64 % 64) * 64 + q.val % 64; omega)⟩

end Cert.Proof.Coord

end
-- ==== Proof.Reference.lean ====
/- THE REFERENCE'S RESULT. Each element of the reference is the same real function of the arguments as the program's: the words
   of the eight neighbours, their table rows, the eight weights and the sum. -/
module

public import proofs.«01_k».proof.Proof.Coord

@[expose] public section

noncomputable section

namespace Cert.Proof.Reference

open Cert.ReferenceIdeal Cert.ReferenceIdeal.Gen Cert.ReferenceIdeal.Read Idealize.ShloMosaic Idealize.ShloMosaic.TcCoe Idealize.SL.Sem
open Cert.Proof.Lin Cert.Proof.Voxel Cert.Proof.Words Cert.Proof.Take Cert.Proof.Host Cert.Proof.Element Cert.Proof.Whole Cert.Proof.Coord

/-! ## Real operations -/

theorem mulr {u v : Ideal .f32} {a b : ℝ} (hu : u = (a : EReal)) (hv : v = (b : EReal)) : FloatOps.mulf u v = ((a * b : ℝ) : EReal) := by
  rw [hu, hv, EReal.coe_mul]; rfl
theorem addr {u v : Ideal .f32} {a b : ℝ} (hu : u = (a : EReal)) (hv : v = (b : EReal)) : FloatOps.addf u v = ((a + b : ℝ) : EReal) := by
  rw [hu, hv, EReal.coe_add]; rfl
theorem subr {u v : Ideal .f32} {a b : ℝ} (hu : u = (a : EReal)) (hv : v = (b : EReal)) : FloatOps.subf u v = ((a - b : ℝ) : EReal) := by
  rw [hu, hv, EReal.coe_sub]; rfl

/-! ## The neighbours' words -/

theorem lower_word {x : Ideal .f32} {p : ℝ} (hx : x = ((p : ℝ) : EReal)) (hp : |p| ≤ 2 ^ 31 - 2) (h : ℕ) (hh : h < 2 ^ 31) :
    IntOp.minsi (BitVec.ofNat 32 h) (IntOp.maxsi 0#32 (FloatOps.fptosi 32 (FloatOps.hostUnary .floor x))) = BitVec.ofNat 32 (clipN h ⌊p⌋) := by
  obtain ⟨l, u⟩ := floor_range hp
  rw [floor_word hx hp]
  exact clip_word h hh ⌊p⌋ (by omega) (by omega)
theorem upper_word {x : Ideal .f32} {p : ℝ} (hx : x = ((p : ℝ) : EReal)) (hp : |p| ≤ 2 ^ 31 - 2) (h : ℕ) (hh : h < 2 ^ 31) :
    IntOp.minsi (BitVec.ofNat 32 h) (IntOp.maxsi 0#32 (IntOp.addi (FloatOps.fptosi 32 (FloatOps.hostUnary .floor x)) 1#32))
      = BitVec.ofNat 32 (clipN h (⌊p⌋ + 1)) := by
  obtain ⟨l, u⟩ := floor_range hp
  rw [floor_word hx hp, next_word]
  exact clip_word h hh (⌊p⌋ + 1) (by omega) (by omega)

/-- A clipped integer as a coordinate. -/
def c31 (z : ℤ) : Fin 32 := ⟨clipN 31 z, by have := clipN_le 31 z; omega⟩
def c63 (z : ℤ) : Fin 64 := ⟨clipN 63 z, by have := clipN_le 63 z; omega⟩

/-- A scaled coordinate of bounded arguments is in the words' range. -/
theorem coord_le {t c g s : ℝ} (ht : |t| ≤ 50331648) (hc : |c| ≤ 65536) (hg : |g| ≤ 1) (h0 : 0 ≤ s) (hs : s ≤ 32) :
    |t * (s * g) + (c * (s * g) + s)| ≤ 2 ^ 31 - 2 := by
  have e : t * (s * g) + (c * (s * g) + s) = s * ((t + c) * g + 1) := by ring
  have h1 : |t + c| ≤ 50331648 + 65536 := (abs_add_le t c).trans (add_le_add ht hc)
  have h2 : |(t + c) * g| ≤ (50331648 + 65536) * 1 := by
    rw [abs_mul]; exact mul_le_mul h1 hg (abs_nonneg _) (by norm_num)
  have h3 : |(t + c) * g + 1| ≤ (50331648 + 65536) * 1 + 1 := (abs_add_le _ _).trans (add_le_add h2 (by norm_num))
  rw [e, abs_mul, abs_of_nonneg h0]
  exact (mul_le_mul hs h3 (abs_nonneg _) (by norm_num)).trans (by norm_num)

/-- A list of row numbers read row by row. -/
theorem take_row (w : IVec S4194304 32) (f : Fin 32 → Fin 32 → Fin 64 → Fin 64 → Fin 4194304)
    (hw : ∀ n r a b, w (listIx (rowOf n r a b)) = BitVec.ofNat 32 (f n r a b).val) (tbl : Vec Ideal S4194304x3 .f32)
    (n r : Fin 32) (a b : Fin 64) (o : Fin 3) : take w tbl (cellIx (rowOf n r a b) o) = tbl (cellIx (f n r a b) o) := by
  have h : ∀ q, ∃ k : Fin 4194304, w (listIx q) = BitVec.ofNat 32 k.val := fun q => by
    obtain ⟨n, r, a, b, rfl⟩ := exists_row q
    exact ⟨_, hw n r a b⟩
  choose row hrow using h
  have e : row (rowOf n r a b) = f n r a b := by
    have e1 := congrArg BitVec.toInt ((hrow (rowOf n r a b)).symm.trans (hw n r a b))
    rw [toInt_small _ (by omega), toInt_small _ (by omega)] at e1
    exact Fin.ext (by exact_mod_cast e1)
  rw [take_at w row hrow, e]

section Result

variable (x0 : Vec Ideal S32x32x64x64x3 .f32) (x1 : Vec Ideal S3x3 .f32) (x2 : Vec Ideal S3 .f32)
  (X : Fin 32 → Fin 32 → Fin 64 → Fin 64 → Fin 3 → ℝ) (W : Fin 3 → Fin 3 → ℝ) (B : Fin 3 → ℝ)
  (hX : ∀ n r a b o, x0 (argIx n r a b o) = (X n r a b o : EReal)) (hW : ∀ p q, x1 (matIx p q) = (W p q : EReal))
  (hB : ∀ o, x2 (shiftIx o) = (B o : EReal))
  (bX : ∀ n r a b o, |X n r a b o| ≤ 65536) (bW : ∀ p q, |W p q| ≤ 256) (bB : ∀ o, |B o| ≤ 65536)

include bX bW in
theorem turned_le (n r : Fin 32) (a b : Fin 64) (o : Fin 3) : |turned X W n r a b o| ≤ 50331648 := by
  have h : ∀ k, |X n r a b k * W k o| ≤ 65536 * 256 := fun k => by
    rw [abs_mul]; exact mul_le_mul (bX n r a b k) (bW k o) (abs_nonneg _) (by norm_num)
  unfold turned
  refine (abs_add_three _ _ _).trans ?_
  linarith [h 0, h 1, h 2]

include bX bW bB in
theorem xf_le (n r : Fin 32) (a b : Fin 64) : |xf X W B n r a b| ≤ 2 ^ 31 - 2 :=
  coord_le (turned_le X W bX bW n r a b 0) (bB 0) (g64_le a) (by norm_num) (by norm_num)
include bX bW bB in
theorem yf_le (n r : Fin 32) (a b : Fin 64) : |yf X W B n r a b| ≤ 2 ^ 31 - 2 :=
  coord_le (turned_le X W bX bW n r a b 1) (bB 1) (g32_le r) (by norm_num) (by norm_num)
include bX bW bB in
theorem zf_le (n r : Fin 32) (a b : Fin 64) : |zf X W B n r a b| ≤ 2 ^ 31 - 2 :=
  coord_le (turned_le X W bX bW n r a b 2) (bB 2) (g64_le b) (by norm_num) (by norm_num)

/-- The six clipped coordinates. -/
def px0 (n r : Fin 32) (a b : Fin 64) : Fin 64 := c63 ⌊xf X W B n r a b⌋
def px1 (n r : Fin 32) (a b : Fin 64) : Fin 64 := c63 (⌊xf X W B n r a b⌋ + 1)
def py0 (n r : Fin 32) (a b : Fin 64) : Fin 32 := c31 ⌊yf X W B n r a b⌋
def py1 (n r : Fin 32) (a b : Fin 64) : Fin 32 := c31 (⌊yf X W B n r a b⌋ + 1)
def pz0 (n r : Fin 32) (a b : Fin 64) : Fin 64 := c63 ⌊zf X W B n r a b⌋
def pz1 (n r : Fin 32) (a b : Fin 64) : Fin 64 := c63 (⌊zf X W B n r a b⌋ + 1)

include hX hW hB bX bW bB

theorem x0_word (n r : Fin 32) (a b : Fin 64) :
    val_main_v57 (F := Ideal) x0 x1 x2 (listIx (rowOf n r a b)) = BitVec.ofNat 32 (px0 X W B n r a b).val := by
  rw [val_main_v57_apply, val_main_call3_v2_apply, val_main_v46_apply, val_main_v45_apply, val_main_call3_v4_apply, val_main_call3_v1_apply]
  exact lower_word (xf_at x0 x1 x2 X W B hX hW hB n r a b) (xf_le X W B bX bW bB n r a b) 63 (by norm_num)
theorem x1_word (n r : Fin 32) (a b : Fin 64) :
    val_main_v58 (F := Ideal) x0 x1 x2 (listIx (rowOf n r a b)) = BitVec.ofNat 32 (px1 X W B n r a b).val := by
  rw [val_main_v58_apply, val_main_call4_v2_apply, val_main_v48_apply, val_main_v46_apply, val_main_v45_apply, val_main_v47_apply,
    val_main_call4_v4_apply, val_main_call4_v1_apply]
  exact upper_word (xf_at x0 x1 x2 X W B hX hW hB n r a b) (xf_le X W B bX bW bB n r a b) 63 (by norm_num)
theorem y0_word (n r : Fin 32) (a b : Fin 64) :
    val_main_v59 (F := Ideal) x0 x1 x2 (listIx (rowOf n r a b)) = BitVec.ofNat 32 (py0 X W B n r a b).val := by
  rw [val_main_v59_apply, val_main_call5_v2_apply, val_main_v50_apply, val_main_v49_apply, val_main_call5_v4_apply, val_main_call5_v1_apply]
  exact lower_word (yf_at x0 x1 x2 X W B hX hW hB n r a b) (yf_le X W B bX bW bB n r a b) 31 (by norm_num)
theorem y1_word (n r : Fin 32) (a b : Fin 64) :
    val_main_v60 (F := Ideal) x0 x1 x2 (listIx (rowOf n r a b)) = BitVec.ofNat 32 (py1 X W B n r a b).val := by
  rw [val_main_v60_apply, val_main_call6_v2_apply, val_main_v52_apply, val_main_v50_apply, val_main_v49_apply, val_main_v51_apply,
    val_main_call6_v4_apply, val_main_call6_v1_apply]
  exact upper_word (yf_at x0 x1 x2 X W B hX hW hB n r a b) (yf_le X W B bX bW bB n r a b) 31 (by norm_num)
theorem z0_word (n r : Fin 32) (a b : Fin 64) :
    val_main_v61 (F := Ideal) x0 x1 x2 (listIx (rowOf n r a b)) = BitVec.ofNat 32 (pz0 X W B n r a b).val := by
  rw [val_main_v61_apply, val_main_call7_v2_apply, val_main_v54_apply, val_main_v53_apply, val_main_call7_v4_apply, val_main_call7_v1_apply]
  exact lower_word (zf_at x0 x1 x2 X W B hX hW hB n r a b) (zf_le X W B bX bW bB n r a b) 63 (by norm_num)
theorem z1_word (n r : Fin 32) (a b : Fin 64) :
    val_main_v62 (F := Ideal) x0 x1 x2 (listIx (rowOf n r a b)) = BitVec.ofNat 32 (pz1 X W B n r a b).val := by
  rw [val_main_v62_apply, val_main_call8_v2_apply, val_main_v56_apply, val_main_v54_apply, val_main_v53_apply, val_main_v55_apply,
    val_main_call8_v4_apply, val_main_call8_v1_apply]
  exact upper_word (zf_at x0 x1 x2 X W B hX hW hB n r a b) (zf_le X W B bX bW bB n r a b) 63 (by norm_num)

omit hX hW hB bX bW bB in
/-- The number of a batch entry's first row. -/
theorem base_word (n r : Fin 32) (a b : Fin 64) :
    val_main_v67 (F := Ideal) (listIx (rowOf n r a b)) = IntOp.muli (BitVec.ofNat 32 n.val) 131072#32 := by
  rw [val_main_v67_apply, val_main_v66_apply, val_main_v65_apply, val_main_v63_apply, val_main_v64_apply]
  have e : (idx_main_v66 (idx_main_v67 (listIx (rowOf n r a b))) 0).val = n.val := by
    show (((n.val * 32 + r.val) * 64 + a.val) * 64 + b.val) / 131072 = n.val; omega
  rw [e]; rfl

/-- The eight row numbers. -/
theorem row_a (n r : Fin 32) (a b : Fin 64) : val_main_v77 (F := Ideal) x0 x1 x2 (listIx (rowOf n r a b))
    = BitVec.ofNat 32 (rowOf n (py0 X W B n r a b) (px0 X W B n r a b) (pz0 X W B n r a b)).val := by
  rw [val_main_v77_apply, val_main_v76_apply, val_main_v70_apply, val_main_v69_apply, val_main_v75_apply, base_word,
    y0_word x0 x1 x2 X W B hX hW hB bX bW bB, x0_word x0 x1 x2 X W B hX hW hB bX bW bB, z0_word x0 x1 x2 X W B hX hW hB bX bW bB]
  exact row_word _ _ _ _
theorem row_b (n r : Fin 32) (a b : Fin 64) : val_main_v81 (F := Ideal) x0 x1 x2 (listIx (rowOf n r a b))
    = BitVec.ofNat 32 (rowOf n (py1 X W B n r a b) (px0 X W B n r a b) (pz0 X W B n r a b)).val := by
  rw [val_main_v81_apply, val_main_v80_apply, val_main_v73_apply, val_main_v72_apply, val_main_v79_apply, base_word,
    y1_word x0 x1 x2 X W B hX hW hB bX bW bB, x0_word x0 x1 x2 X W B hX hW hB bX bW bB, z0_word x0 x1 x2 X W B hX hW hB bX bW bB]
  exact row_word _ _ _ _
theorem row_c (n r : Fin 32) (a b : Fin 64) : val_main_v85 (F := Ideal) x0 x1 x2 (listIx (rowOf n r a b))
    = BitVec.ofNat 32 (rowOf n (py0 X W B n r a b) (px1 X W B n r a b) (pz0 X W B n r a b)).val := by
  rw [val_main_v85_apply, val_main_v84_apply, val_main_v70_apply, val_main_v69_apply, val_main_v83_apply, base_word,
    y0_word x0 x1 x2 X W B hX hW hB bX bW bB, x1_word x0 x1 x2 X W B hX hW hB bX bW bB, z0_word x0 x1 x2 X W B hX hW hB bX bW bB]
  exact row_word _ _ _ _
theorem row_d (n r : Fin 32) (a b : Fin 64) : val_main_v89 (F := Ideal) x0 x1 x2 (listIx (rowOf n r a b))
    = BitVec.ofNat 32 (rowOf n (py1 X W B n r a b) (px1 X W B n r a b) (pz0 X W B n r a b)).val := by
  rw [val_main_v89_apply, val_main_v88_apply, val_main_v73_apply, val_main_v72_apply, val_main_v87_apply, base_word,
    y1_word x0 x1 x2 X W B hX hW hB bX bW bB, x1_word x0 x1 x2 X W B hX hW hB bX bW bB, z0_word x0 x1 x2 X W B hX hW hB bX bW bB]
  exact row_word _ _ _ _
theorem row_e (n r : Fin 32) (a b : Fin 64) : val_main_v93 (F := Ideal) x0 x1 x2 (listIx (rowOf n r a b))
    = BitVec.ofNat 32 (rowOf n (py0 X W B n r a b) (px0 X W B n r a b) (pz1 X W B n r a b)).val := by
  rw [val_main_v93_apply, val_main_v92_apply, val_main_v70_apply, val_main_v69_apply, val_main_v91_apply, base_word,
    y0_word x0 x1 x2 X W B hX hW hB bX bW bB, x0_word x0 x1 x2 X W B hX hW hB bX bW bB, z1_word x0 x1 x2 X W B hX hW hB bX bW bB]
  exact row_word _ _ _ _
theorem row_f (n r : Fin 32) (a b : Fin 64) : val_main_v97 (F := Ideal) x0 x1 x2 (listIx (rowOf n r a b))
    = BitVec.ofNat 32 (rowOf n (py1 X W B n r a b) (px0 X W B n r a b) (pz1 X W B n r a b)).val := by
  rw [val_main_v97_apply, val_main_v96_apply, val_main_v73_apply, val_main_v72_apply, val_main_v95_apply, base_word,
    y1_word x0 x1 x2 X W B hX hW hB bX bW bB, x0_word x0 x1 x2 X W B hX hW hB bX bW bB, z1_word x0 x1 x2 X W B hX hW hB bX bW bB]
  exact row_word _ _ _ _
theorem row_g (n r : Fin 32) (a b : Fin 64) : val_main_v101 (F := Ideal) x0 x1 x2 (listIx (rowOf n r a b))
    = BitVec.ofNat 32 (rowOf n (py0 X W B n r a b) (px1 X W B n r a b) (pz1 X W B n r a b)).val := by
  rw [val_main_v101_apply, val_main_v100_apply, val_main_v70_apply, val_main_v69_apply, val_main_v99_apply, base_word,
    y0_word x0 x1 x2 X W B hX hW hB bX bW bB, x1_word x0 x1 x2 X W B hX hW hB bX bW bB, z1_word x0 x1 x2 X W B hX hW hB bX bW bB]
  exact row_word _ _ _ _
theorem row_h (n r : Fin 32) (a b : Fin 64) : val_main_v105 (F := Ideal) x0 x1 x2 (listIx (rowOf n r a b))
    = BitVec.ofNat 32 (rowOf n (py1 X W B n r a b) (px1 X W B n r a b) (pz1 X W B n r a b)).val := by
  rw [val_main_v105_apply, val_main_v104_apply, val_main_v73_apply, val_main_v72_apply, val_main_v103_apply, base_word,
    y1_word x0 x1 x2 X W B hX hW hB bX bW bB, x1_word x0 x1 x2 X W B hX hW hB bX bW bB, z1_word x0 x1 x2 X W B hX hW hB bX bW bB]
  exact row_word _ _ _ _

/-- The three weights of an element: the distances to its upper neighbours. -/
theorem dx_at (n r : Fin 32) (a b : Fin 64) : val_main_v147 (F := Ideal) x0 x1 x2 (listIx (rowOf n r a b))
    = ((((px1 X W B n r a b).val : ℝ) - xf X W B n r a b : ℝ) : EReal) := by
  rw [val_main_v147_apply, val_main_v146_apply, x1_word x0 x1 x2 X W B hX hW hB bX bW bB]
  exact subr (nat_word _ (by omega)) (xf_at x0 x1 x2 X W B hX hW hB n r a b)
theorem dy_at (n r : Fin 32) (a b : Fin 64) : val_main_v149 (F := Ideal) x0 x1 x2 (listIx (rowOf n r a b))
    = ((((py1 X W B n r a b).val : ℝ) - yf X W B n r a b : ℝ) : EReal) := by
  rw [val_main_v149_apply, val_main_v148_apply, y1_word x0 x1 x2 X W B hX hW hB bX bW bB]
  exact subr (nat_word _ (by omega)) (yf_at x0 x1 x2 X W B hX hW hB n r a b)
theorem dz_at (n r : Fin 32) (a b : Fin 64) : val_main_v151 (F := Ideal) x0 x1 x2 (listIx (rowOf n r a b))
    = ((((pz1 X W B n r a b).val : ℝ) - zf X W B n r a b : ℝ) : EReal) := by
  rw [val_main_v151_apply, val_main_v150_apply, z1_word x0 x1 x2 X W B hX hW hB bX bW bB]
  exact subr (nat_word _ (by omega)) (zf_at x0 x1 x2 X W B hX hW hB n r a b)

omit hX hW hB bX bW bB in
/-- A weight's place in the list of an entry of a row. -/
theorem listed (q : Fin 4194304) (o : Fin 3) : idx_main_v154 (idx_main_v200 (cellIx q o)) = listIx q :=
  funext fun d => match d with | ⟨0, _⟩ => rfl

omit hX hW hB bX bW bB in
/-- One of the eight terms: its weight times the table's row. -/
theorem term_at {u v : Ideal .f32} {p : ℝ} {w : IVec S4194304 32} {f : Fin 32 → Fin 32 → Fin 64 → Fin 64 → Fin 4194304}
    (hw : ∀ n r a b, w (listIx (rowOf n r a b)) = BitVec.ofNat 32 (f n r a b).val) (n r : Fin 32) (a b : Fin 64) (o : Fin 3)
    (y : Fin 32) (x z : Fin 64) (hf : f n r a b = rowOf n y x z) (hu : u = (p : EReal))
    (hv : v = take w (val_main_v137 (F := Ideal)) (cellIx (rowOf n r a b) o)) :
    FloatOps.mulf u v = ((p * ball y.val x.val z.val : ℝ) : EReal) :=
  mulr hu (by rw [hv, take_row w f hw, hf, table_at])

/-- The eight terms of an element, summed. -/
theorem sum_at (n r : Fin 32) (a b : Fin 64) (o : Fin 3) :
    val_main_v222 (F := Ideal) x0 x1 x2 (cellIx (rowOf n r a b) o) = ((value X W B n r a b : ℝ) : EReal) := by
  have dx := dx_at x0 x1 x2 X W B hX hW hB bX bW bB n r a b
  have dy := dy_at x0 x1 x2 X W B hX hW hB bX bW bB n r a b
  have dz := dz_at x0 x1 x2 X W B hX hW hB bX bW bB n r a b
  have ex := subr (u := FloatOps.ofBits .f32 0x3F800000#32) bits_one dx
  have ey := subr (u := FloatOps.ofBits .f32 0x3F800000#32) bits_one dy
  have ez := subr (u := FloatOps.ofBits .f32 0x3F800000#32) bits_one dz
  rw [val_main_v222_apply, val_main_v219_apply, val_main_v216_apply, val_main_v213_apply, val_main_v210_apply, val_main_v207_apply,
    val_main_v204_apply, val_main_v201_apply, val_main_v203_apply, val_main_v206_apply, val_main_v209_apply, val_main_v212_apply,
    val_main_v215_apply, val_main_v218_apply, val_main_v221_apply]
  have ta := term_at (row_a x0 x1 x2 X W B hX hW hB bX bW bB) n r a b o _ _ _ rfl
    (u := val_main_v200 (F := Ideal) x0 x1 x2 (cellIx (rowOf n r a b) o)) (v := val_main_v138 (F := Ideal) x0 x1 x2 (cellIx (rowOf n r a b) o))
    (by rw [val_main_v200_apply, val_main_v154_apply, listed,
          val_main_v153_apply, val_main_v152_apply]
        exact mulr (mulr dz dx) dy) rfl
  have tb := term_at (row_b x0 x1 x2 X W B hX hW hB bX bW bB) n r a b o _ _ _ rfl
    (u := val_main_v202 (F := Ideal) x0 x1 x2 (cellIx (rowOf n r a b) o)) (v := val_main_v139 (F := Ideal) x0 x1 x2 (cellIx (rowOf n r a b) o))
    (by rw [val_main_v202_apply, val_main_v159_apply, show idx_main_v159 (idx_main_v202 (cellIx (rowOf n r a b) o)) = listIx (rowOf n r a b) from listed _ o,
          val_main_v158_apply, val_main_v155_apply, val_main_v157_apply, val_main_v156_apply]
        exact mulr (mulr dz dx) ey) rfl
  have tc := term_at (row_c x0 x1 x2 X W B hX hW hB bX bW bB) n r a b o _ _ _ rfl
    (u := val_main_v205 (F := Ideal) x0 x1 x2 (cellIx (rowOf n r a b) o)) (v := val_main_v140 (F := Ideal) x0 x1 x2 (cellIx (rowOf n r a b) o))
    (by rw [val_main_v205_apply, val_main_v164_apply, show idx_main_v164 (idx_main_v205 (cellIx (rowOf n r a b) o)) = listIx (rowOf n r a b) from listed _ o,
          val_main_v163_apply, val_main_v162_apply, val_main_v161_apply, val_main_v160_apply]
        exact mulr (mulr dz ex) dy) rfl
  have td := term_at (row_d x0 x1 x2 X W B hX hW hB bX bW bB) n r a b o _ _ _ rfl
    (u := val_main_v208 (F := Ideal) x0 x1 x2 (cellIx (rowOf n r a b) o)) (v := val_main_v141 (F := Ideal) x0 x1 x2 (cellIx (rowOf n r a b) o))
    (by rw [val_main_v208_apply, val_main_v171_apply, show idx_main_v171 (idx_main_v208 (cellIx (rowOf n r a b) o)) = listIx (rowOf n r a b) from listed _ o,
          val_main_v170_apply, val_main_v167_apply, val_main_v166_apply, val_main_v165_apply, val_main_v169_apply, val_main_v168_apply]
        exact mulr (mulr dz ex) ey) rfl
  have te := term_at (row_e x0 x1 x2 X W B hX hW hB bX bW bB) n r a b o _ _ _ rfl
    (u := val_main_v211 (F := Ideal) x0 x1 x2 (cellIx (rowOf n r a b) o)) (v := val_main_v142 (F := Ideal) x0 x1 x2 (cellIx (rowOf n r a b) o))
    (by rw [val_main_v211_apply, val_main_v176_apply, show idx_main_v176 (idx_main_v211 (cellIx (rowOf n r a b) o)) = listIx (rowOf n r a b) from listed _ o,
          val_main_v175_apply, val_main_v174_apply, val_main_v173_apply, val_main_v172_apply]
        exact mulr (mulr ez dx) dy) rfl
  have tf := term_at (row_f x0 x1 x2 X W B hX hW hB bX bW bB) n r a b o _ _ _ rfl
    (u := val_main_v214 (F := Ideal) x0 x1 x2 (cellIx (rowOf n r a b) o)) (v := val_main_v143 (F := Ideal) x0 x1 x2 (cellIx (rowOf n r a b) o))
    (by rw [val_main_v214_apply, val_main_v183_apply, show idx_main_v183 (idx_main_v214 (cellIx (rowOf n r a b) o)) = listIx (rowOf n r a b) from listed _ o,
          val_main_v182_apply, val_main_v179_apply, val_main_v178_apply, val_main_v177_apply, val_main_v181_apply, val_main_v180_apply]
        exact mulr (mulr ez dx) ey) rfl
  have tg := term_at (row_g x0 x1 x2 X W B hX hW hB bX bW bB) n r a b o _ _ _ rfl
    (u := val_main_v217 (F := Ideal) x0 x1 x2 (cellIx (rowOf n r a b) o)) (v := val_main_v144 (F := Ideal) x0 x1 x2 (cellIx (rowOf n r a b) o))
    (by rw [val_main_v217_apply, val_main_v190_apply, show idx_main_v190 (idx_main_v217 (cellIx (rowOf n r a b) o)) = listIx (rowOf n r a b) from listed _ o,
          val_main_v189_apply, val_main_v188_apply, val_main_v185_apply, val_main_v184_apply, val_main_v187_apply, val_main_v186_apply]
        exact mulr (mulr ez ex) dy) rfl
  have th := term_at (row_h x0 x1 x2 X W B hX hW hB bX bW bB) n r a b o _ _ _ rfl
    (u := val_main_v220 (F := Ideal) x0 x1 x2 (cellIx (rowOf n r a b) o)) (v := val_main_v145 (F := Ideal) x0 x1 x2 (cellIx (rowOf n r a b) o))
    (by rw [val_main_v220_apply, val_main_v199_apply, show idx_main_v199 (idx_main_v220 (cellIx (rowOf n r a b) o)) = listIx (rowOf n r a b) from listed _ o,
          val_main_v198_apply, val_main_v195_apply, val_main_v192_apply, val_main_v191_apply, val_main_v194_apply, val_main_v193_apply, val_main_v197_apply, val_main_v196_apply]
        exact mulr (mulr ez ex) ey) rfl
  exact addr (addr (addr (addr (addr (addr (addr ta tb) tc) td) te) tf) tg) th

/-- THE REFERENCE: the result's element is the interpolation at the element's voxel coordinates. -/
theorem result_at (n r : Fin 32) (a b : Fin 64) (o : Fin 3) :
    val_main_v223 (F := Ideal) x0 x1 x2 (argIx n r a b o) = ((value X W B n r a b : ℝ) : EReal) := by
  rw [val_main_v223_apply, show idx_main_v223 (argIx n r a b o) = cellIx (rowOf n r a b) o from funext fun d => Fin.ext (match d with
    | ⟨0, _⟩ => by
      show ((((n.val * 32 + r.val) * 64 + a.val) * 64 + b.val) * 3 + o.val) / 3 = ((n.val * 32 + r.val) * 64 + a.val) * 64 + b.val; omega
    | ⟨1, _⟩ => by show ((((n.val * 32 + r.val) * 64 + a.val) * 64 + b.val) * 3 + o.val) % 3 = o.val; omega)]
  exact sum_at x0 x1 x2 X W B hX hW hB bX bW bB n r a b o

end Result

end Cert.Proof.Reference

end
-- ==== Proof.Result.lean ====
/- THE TWO RUNS. The program and the reference, run over real arguments within the bounds, both end with one array function of
   the arguments and with the arguments unchanged. -/
module

public import proofs.«01_k».proof.Proof.Reference
public import proofs.«01_k».proof.Proof.Gen.ReferenceIdeal.Run

@[expose] public section

noncomputable section

namespace Cert.Proof.Result

open Idealize.ShloMosaic Idealize.ShloMosaic.TcCoe Idealize.SL.Sem
open Cert.Proof.Host Cert.Proof.Element Cert.Proof.Whole

/-- Real arguments of one device. -/
structure Args where
  X : Fin 32 → Fin 32 → Fin 64 → Fin 64 → Fin 3 → ℝ
  W : Fin 3 → Fin 3 → ℝ
  B : Fin 3 → ℝ

/-- Three arrays hold the real arguments, which are within the bounds. -/
structure Args.Held (A : Args) (x0 : FVec Ideal Cert.KernelIdeal.S32x32x64x64x3 .f32) (x1 : FVec Ideal Cert.KernelIdeal.S3x3 .f32)
    (x2 : FVec Ideal Cert.KernelIdeal.S3 .f32) : Prop where
  hX : ∀ n r a b o, x0 (argIx n r a b o) = (A.X n r a b o : EReal)
  hW : ∀ p q, x1 (matIx p q) = (A.W p q : EReal)
  hB : ∀ o, x2 (shiftIx o) = (A.B o : EReal)
  bX : ∀ n r a b o, |A.X n r a b o| ≤ 65536
  bW : ∀ p q, |A.W p q| ≤ 256
  bB : ∀ o, |A.B o| ≤ 65536

/-- Arrays of bounded real numbers hold some real arguments. -/
theorem exists_args (x0 : FVec Ideal Cert.KernelIdeal.S32x32x64x64x3 .f32) (x1 : FVec Ideal Cert.KernelIdeal.S3x3 .f32)
    (x2 : FVec Ideal Cert.KernelIdeal.S3 .f32) (h0 : ∀ i, ∃ y : ℝ, x0 i = (y : EReal) ∧ |y| ≤ 65536)
    (h1 : ∀ i, ∃ y : ℝ, x1 i = (y : EReal) ∧ |y| ≤ 256) (h2 : ∀ i, ∃ y : ℝ, x2 i = (y : EReal) ∧ |y| ≤ 65536) :
    ∃ A : Args, A.Held x0 x1 x2 := by
  choose X hX using h0
  choose W hW using h1
  choose B hB using h2
  exact ⟨⟨fun n r a b o => X (argIx n r a b o), fun p q => W (matIx p q), fun o => B (shiftIx o)⟩,
    ⟨fun _ _ _ _ _ => (hX _).1, fun _ _ => (hW _).1, fun _ => (hB _).1, fun _ _ _ _ _ => (hX _).2, fun _ _ => (hW _).2, fun _ => (hB _).2⟩⟩

section Program

open Cert.KernelIdeal Cert.KernelIdeal.Gen

/-- THE PROGRAM'S RUN: on every device the result is the array of the values, and the arguments are unchanged. -/
theorem program_run (m : (ℓ : Loc nD τ sig) → Buf (Elt Ideal) ℓ) (ρ : Dev nD → PrngReg) (A : Dev nD → Args)
    (hA : ∀ c : Dev nD, (A c).Held (m ((c.tc : Thread nD τ).loc main_arg0)) (m ((c.tc : Thread nD τ).loc main_arg1)) (m ((c.tc : Thread nD τ).loc main_arg2))) :
    θ_run (defs (F := Ideal)) (onTc (τ := τ) (main (F := Ideal))) ⟨m, fun _ => 0, ρ⟩ fun r => ∀ c : Dev nD,
      r.2.mem ((c.tc : Thread nD τ).loc main_v46) = R (A c).X (A c).W (A c).B
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨
    (h.1 c |>.2 main_v46 (Pipeline.mem_restRefs_of main_v46 (by decide) (by decide))).trans
      (tail_eq m c (A c).X (A c).W (A c).B (hA c).hX (hA c).hW (hA c).hB), h.2 c⟩)
    (θ_run_and (run_main m ρ) (unchanged m ρ))

end Program

section Spec

open Cert.ReferenceIdeal Cert.ReferenceIdeal.Gen Cert.ReferenceIdeal.Read Cert.Proof.Reference

/-- The reference's last array is the array of the values. -/
theorem last_eq (A : Args) (x0 : FVec Ideal S32x32x64x64x3 .f32) (x1 : FVec Ideal S3x3 .f32) (x2 : FVec Ideal S3 .f32) (h : A.Held x0 x1 x2) :
    val_main_v223 (F := Ideal) x0 x1 x2 = R A.X A.W A.B :=
  funext fun j => by
    have e : j = argIx (j 0) (j 1) (j 2) (j 3) (j 4) := funext fun d => match d with
      | ⟨0, _⟩ => rfl | ⟨1, _⟩ => rfl | ⟨2, _⟩ => rfl | ⟨3, _⟩ => rfl | ⟨4, _⟩ => rfl
    exact (congrArg _ e).trans (result_at x0 x1 x2 A.X A.W A.B h.hX h.hW h.hB h.bX h.bW h.bB (j 0) (j 1) (j 2) (j 3) (j 4))

/-- THE REFERENCE'S RUN: the same array, and the arguments unchanged. -/
theorem reference_run (m : (ℓ : Loc nD τ sig) → Buf (Elt Ideal) ℓ) (ρ : Dev nD → PrngReg) (A : Dev nD → Args)
    (hA : ∀ c : Dev nD, (A c).Held (m ((c.tc : Thread nD τ).loc main_arg0)) (m ((c.tc : Thread nD τ).loc main_arg1)) (m ((c.tc : Thread nD τ).loc main_arg2))) :
    θ_run (defs (F := Ideal)) (onTc (τ := τ) (main (F := Ideal))) ⟨m, fun _ => 0, ρ⟩ fun r => ∀ c : Dev nD,
      r.2.mem ((c.tc : Thread nD τ).loc main_v223) = R (A c).X (A c).W (A c).B
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans ((val_main_v223_eq (StableHlo.launchContents m c)).trans (last_eq (A c) _ _ _ (hA c))), (h c).2⟩)
    (Cert.ReferenceIdeal.Value.run m ρ)

end Spec

end Cert.Proof.Result

end
-- ==== Proof.lean ====
/- THE CERTIFICATE. The frames are those the printed programs' launches prove; the value claim is the two runs of
   Proof/Result.lean, over the real arguments that the precondition gives (Proof/Range.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.ReferenceIdeal
public import proofs.«01_k».proof.Proof.Range
public import proofs.«01_k».proof.Proof.Result
public import Idealize.ShloMosaic.Adequacy
public import Idealize.ShloMosaic.Init

@[expose] public section

noncomputable section

namespace Cert.Proof

open Idealize.ShloMosaic Idealize.SL.Sem Cert.Kernel

/-- The reference runs from every memory, leaves its arguments unchanged, and declares no semaphore. -/
theorem reference_frame : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

open Cert.Proof.Result in
/-- The program and the reference end with the same array, when the arguments are within their bounds. -/
theorem same_result : Cert.algebraic_KernelIdeal_ReferenceIdeal_pre_inputs_in_range (hKernelIdeal := Cert.KernelIdeal.Gen.facts)
    (hReferenceIdeal := Cert.ReferenceIdeal.Gen.facts) (hPre_inputs_in_range := Cert.Proof.Range.facts) := by
  intro m g m' g' hp hm
  haveI := Cert.Proof.Range.facts
  have held : ∀ c : Dev Cert.KernelIdeal.nD, ∃ A : Args,
      A.Held (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) := fun c =>
    have d := Cert.Proof.Range.decode _ _ _ (hp c)
    exists_args _ _ _ d.1 d.2.1 d.2.2
  choose A hA using held
  refine ⟨fun c => Cert.Proof.Whole.R (A c).X (A c).W (A c).B, program_run m g A hA, reference_run m' g' A fun c => ?_⟩
  obtain ⟨e0, e1, e2⟩ := hm c
  rw [e0, e1, e2]
  exact hA c

theorem claim : Cert.Claim := ⟨Cert.Kernel.Gen.facts, Cert.KernelIdeal.Gen.facts, Cert.ReferenceIdeal.Gen.facts, Cert.Proof.Range.facts,
  fun m g _ => Cert.Kernel.Gen.frame m g,
  fun m g _ => Cert.KernelIdeal.Gen.frame m g,
  fun m g _ => Cert.KernelIdeal.Gen.frame m g,
  reference_frame,
  fun m g _ => reference_frame m g trivial,
  trivial,
  same_result⟩

end Cert.Proof

end
